-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== Kernel.lean ====
abbrev S4x4096x3 : Shape := ⟨3, ![4, 4096, 3]⟩
abbrev S4x3x4096 : Shape := ⟨3, ![4, 3, 4096]⟩
abbrev S4x4096x6 : Shape := ⟨3, ![4, 4096, 6]⟩
abbrev S4x4096x8 : Shape := ⟨3, ![4, 4096, 8]⟩
abbrev S1x1024x3 : Shape := ⟨3, ![1, 1024, 3]⟩
abbrev S1x4096x3 : Shape := ⟨3, ![1, 4096, 3]⟩
abbrev S1x3x4096 : Shape := ⟨3, ![1, 3, 4096]⟩
abbrev S1x1024x6 : Shape := ⟨3, ![1, 1024, 6]⟩
abbrev S1x1024x8 : Shape := ⟨3, ![1, 1024, 8]⟩
abbrev S1024x3 : Shape := ⟨2, ![1024, 3]⟩
abbrev S4096x3 : Shape := ⟨2, ![4096, 3]⟩
abbrev S3x4096 : Shape := ⟨2, ![3, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S1024x8 : Shape := ⟨2, ![1024, 8]⟩
abbrev S4096x1 : Shape := ⟨2, ![4096, 1]⟩
abbrev S4096x9 : Shape := ⟨2, ![4096, 9]⟩
abbrev S1024x9 : Shape := ⟨2, ![1024, 9]⟩
abbrev S1024x6 : Shape := ⟨2, ![1024, 6]⟩
abbrev S4x1x128 : Shape := ⟨3, ![4, 1, 128]⟩
abbrev S1x1x128 : Shape := ⟨3, ![1, 1, 128]⟩
abbrev S1x1024x1 : Shape := ⟨3, ![1, 1024, 1]⟩
abbrev S1 : Shape := ⟨1, ![1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x4096x6, .f32⟩
  | .hbm, ⟨4, _⟩ => ⟨S4x4096x8, .i32⟩
  | .hbm, ⟨5, _⟩ => ⟨S4x1x128, .f32⟩
  | .hbm, ⟨6, _⟩ => ⟨S4x1x1, .f32⟩
  | .hbm, ⟨7, _⟩ => ⟨S4, .f32⟩
  | .local _ .vmem, ⟨0, _⟩ => ⟨S1x1024x3, .f32⟩
  | .local _ .vmem, ⟨1, _⟩ => ⟨S1x1024x3, .f32⟩
  | .local _ .vmem, ⟨2, _⟩ => ⟨S1x4096x3, .f32⟩
  | .local _ .vmem, ⟨3, _⟩ => ⟨S1x4096x3, .f32⟩
  | .local _ .vmem, ⟨4, _⟩ => ⟨S1x3x4096, .f32⟩
  | .local _ .vmem, ⟨5, _⟩ => ⟨S1x3x4096, .f32⟩
  | .local _ .vmem, ⟨6, _⟩ => ⟨S1x1024x6, .f32⟩
  | .local _ .vmem, ⟨7, _⟩ => ⟨S1x1024x6, .f32⟩
  | .local _ .vmem, ⟨8, _⟩ => ⟨S1x1024x8, .i32⟩
  | .local _ .vmem, ⟨9, _⟩ => ⟨S1x1024x8, .i32⟩
  | .local _ .vmem, ⟨10, _⟩ => ⟨S1x4096x3, .f32⟩
  | .local _ .vmem, ⟨11, _⟩ => ⟨S1x4096x3, .f32⟩
  | .local _ .vmem, ⟨12, _⟩ => ⟨S1x1024x8, .i32⟩
  | .local _ .vmem, ⟨13, _⟩ => ⟨S1x1024x8, .i32⟩
  | .local _ .vmem, ⟨14, _⟩ => ⟨S1x1x128, .f32⟩
  | .local _ .vmem, ⟨15, _⟩ => ⟨S1x1x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x8 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x32 : Shape := ⟨3, ![4, 4096, 32]⟩
abbrev S4x4096x32x1 : Shape := ⟨4, ![4, 4096, 32, 1]⟩
abbrev S4x4096x32x3 : Shape := ⟨4, ![4, 4096, 32, 3]⟩
abbrev S4x4096x1x3 : Shape := ⟨4, ![4, 4096, 1, 3]⟩
abbrev S4x4096x3x3 : Shape := ⟨4, ![4, 4096, 3, 3]⟩
abbrev S4x4096x1x1 : Shape := ⟨4, ![4, 4096, 1, 1]⟩
abbrev S4x4096x6 : Shape := ⟨3, ![4, 4096, 6]⟩
abbrev S4x4096x8 : Shape := ⟨3, ![4, 4096, 8]⟩
abbrev S4x4096x8x1 : Shape := ⟨4, ![4, 4096, 8, 1]⟩
abbrev S4x4096x8x3 : Shape := ⟨4, ![4, 4096, 8, 3]⟩
abbrev S4 : Shape := ⟨1, ![4]⟩

abbrev nBuf : Space → Nat
  | .hbm => 127
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x1x4096, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x32, .f32⟩
  | .hbm, ⟨20, _⟩ => ⟨S4x4096x32, .i32⟩
  | .hbm, ⟨21, _⟩ => ⟨S_, .i32⟩
  | .hbm, ⟨22, _⟩ => ⟨S4x4096x32, .i32⟩
  | .hbm, ⟨23, _⟩ => ⟨S4x4096x32, .i1⟩
  | .hbm, ⟨24, _⟩ => ⟨S_, .i32⟩
  | .hbm, ⟨25, _⟩ => ⟨S4x4096x32, .i32⟩
  | .hbm, ⟨26, _⟩ => ⟨S4x4096x32, .i32⟩
  | .hbm, ⟨27, _⟩ => ⟨S4x4096x32, .i32⟩
  | .hbm, ⟨28, _⟩ => ⟨S4x4096x32x1, .i32⟩
  | .hbm, ⟨29, _⟩ => ⟨S4x4096x32x3, .f32⟩
  | .hbm, ⟨30, _⟩ => ⟨S_, .f32⟩
  | .hbm, ⟨31, _⟩ => ⟨S4x4096x3, .f32⟩
  | .hbm, ⟨32, _⟩ => ⟨S4x4096x1x3, .f32⟩
  | .hbm, ⟨33, _⟩ => ⟨S_, .f32⟩
  | .hbm, ⟨34, _⟩ => ⟨S4x4096x1x3, .f32⟩
  | .hbm, ⟨35, _⟩ => ⟨S4x4096x1x3, .f32⟩
  | .hbm, ⟨36, _⟩ => ⟨S4x4096x32x3, .f32⟩
  | .hbm, ⟨37, _⟩ => ⟨S4x4096x32x3, .f32⟩
  | .hbm, ⟨38, _⟩ => ⟨S4x4096x3x3, .f32⟩
  | .hbm, ⟨39, _⟩ => ⟨S_, .f32⟩
  | .hbm, ⟨40, _⟩ => ⟨S4x4096x3x3, .f32⟩
  | .hbm, ⟨41, _⟩ => ⟨S4x4096x3x3, .f32⟩
  | .hbm, ⟨42, _⟩ => ⟨S4x4096x1x1, .f32⟩
  | .hbm, ⟨43, _⟩ => ⟨S4x4096, .f32⟩
  | .hbm, ⟨44, _⟩ => ⟨S4x4096x1x1, .f32⟩
  | .hbm, ⟨45, _⟩ => ⟨S4x4096, .f32⟩
  | .hbm, ⟨46, _⟩ => ⟨S4x4096x1x1, .f32⟩
  | .hbm, ⟨47, _⟩ => ⟨S4x4096, .f32⟩
  | .hbm, ⟨48, _⟩ => ⟨S4x4096x1x1, .f32⟩
  | .hbm, ⟨49, _⟩ => ⟨S4x4096, .f32⟩
  | .hbm, ⟨50, _⟩ => ⟨S4x4096x1x1, .f32⟩
  | .hbm, ⟨51, _⟩ => ⟨S4x4096, .f32⟩
  | .hbm, ⟨52, _⟩ => ⟨S4x4096x1x1, .f32⟩
  | .hbm, ⟨53, _⟩ => ⟨S4x4096, .f32⟩
  | .hbm, ⟨54, _⟩ => ⟨S4x4096x1, .f32⟩
  | .hbm, ⟨55, _⟩ => ⟨S4x4096x1, .f32⟩
  | .hbm, ⟨56, _⟩ => ⟨S4x4096x1, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x6, .f32⟩
  | .hbm, ⟨61, _⟩ => ⟨S4x4096x4096, .f32⟩
  | .hbm, ⟨62, _⟩ => ⟨S4x4096x8, .f32⟩
  | .hbm, ⟨63, _⟩ => ⟨S4x4096x8, .i32⟩
  | .hbm, ⟨64, _⟩ => ⟨S_, .i32⟩
  | .hbm, ⟨65, _⟩ => ⟨S4x4096x8, .i32⟩
  | .hbm, ⟨66, _⟩ => ⟨S4x4096x8, .i1⟩
  | .hbm, ⟨67, _⟩ => ⟨S_, .i32⟩
  | .hbm, ⟨68, _⟩ => ⟨S4x4096x8, .i32⟩
  | .hbm, ⟨69, _⟩ => ⟨S4x4096x8, .i32⟩
  | .hbm, ⟨70, _⟩ => ⟨S4x4096x8, .i32⟩
  | .hbm, ⟨71, _⟩ => ⟨S4x4096x8x1, .i32⟩
  | .hbm, ⟨72, _⟩ => ⟨S4x4096x8x3, .f32⟩
  | .hbm, ⟨73, _⟩ => ⟨S4x4096x1x3, .f32⟩
  | .hbm, ⟨74, _⟩ => ⟨S4x4096x1x3, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x8x3, .f32⟩
  | .hbm, ⟨82, _⟩ => ⟨S_, .f32⟩
  | .hbm, ⟨83, _⟩ => ⟨S4x4096x8, .f32⟩
  | .hbm, ⟨84, _⟩ => ⟨S4x4096x8, .f32⟩
  | .hbm, ⟨85, _⟩ => ⟨S_, .f32⟩
  | .hbm, ⟨86, _⟩ => ⟨S4x4096x8, .f32⟩
  | .hbm, ⟨87, _⟩ => ⟨S4x4096x8, .f32⟩
  | .hbm, ⟨88, _⟩ => ⟨S4x4096x8x3, .f32⟩
  | .hbm, ⟨89, _⟩ => ⟨S4x4096x8x3, .f32⟩
  | .hbm, ⟨90, _⟩ => ⟨S_, .f32⟩
  | .hbm, ⟨91, _⟩ => ⟨S4x4096x8, .f32⟩
  | .hbm, ⟨92, _⟩ => ⟨S4x4096x8, .f32⟩
  | .hbm, ⟨93, _⟩ => ⟨S4x4096x8, .f32⟩
  | .hbm, ⟨94, _⟩ => ⟨S4x4096x8, .f32⟩
  | .hbm, ⟨95, _⟩ => ⟨S_, .f32⟩
  | .hbm, ⟨96, _⟩ => ⟨S4x4096x8, .f32⟩
  | .hbm, ⟨97, _⟩ => ⟨S4x4096x8, .f32⟩
  | .hbm, ⟨98, _⟩ => ⟨S_, .i32⟩
  | .hbm, ⟨99, _⟩ => ⟨S_, .f32⟩
  | .hbm, ⟨100, _⟩ => ⟨S4x4096, .f32⟩
  | .hbm, ⟨101, _⟩ => ⟨S4x4096x1, .f32⟩
  | .hbm, ⟨102, _⟩ => ⟨S_, .f32⟩
  | .hbm, ⟨103, _⟩ => ⟨S4x4096x1, .f32⟩
  | .hbm, ⟨104, _⟩ => ⟨S4x4096x1, .f32⟩
  | .hbm, ⟨105, _⟩ => ⟨S4x4096x8, .f32⟩
  | .hbm, ⟨106, _⟩ => ⟨S4x4096x8, .f32⟩
  | .hbm, ⟨107, _⟩ => ⟨S4x4096x8, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S4x4096, .f32⟩
  | .hbm, ⟨113, _⟩ => ⟨S4x4096, .f32⟩
  | .hbm, ⟨114, _⟩ => ⟨S4x4096, .f32⟩
  | .hbm, ⟨115, _⟩ => ⟨S_, .f32⟩
  | .hbm, ⟨116, _⟩ => ⟨S_, .i1⟩
  | .hbm, ⟨117, _⟩ => ⟨S_, .f32⟩
  | .hbm, ⟨118, _⟩ => ⟨S_, .f32⟩
  | .hbm, ⟨119, _⟩ => ⟨S4x4096, .f32⟩
  | .hbm, ⟨120, _⟩ => ⟨S4x4096, .f32⟩
  | .hbm, ⟨121, _⟩ => ⟨S4x4096, .f32⟩
  | .hbm, ⟨122, _⟩ => ⟨S_, .f32⟩
  | .hbm, ⟨123, _⟩ => ⟨S4, .f32⟩
  | .hbm, ⟨124, _⟩ => ⟨S_, .f32⟩
  | .hbm, ⟨125, _⟩ => ⟨S4, .f32⟩
  | .hbm, ⟨126, _⟩ => ⟨S4, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_values_6 : Ref sig .tc := ⟨.hbm, 62, rfl⟩
abbrev main_indices_7 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call0_v0 : Ref sig .tc := ⟨.hbm, 74, rfl⟩
abbrev main_call0_cst : Ref sig .tc := ⟨.hbm, 75, rfl⟩
abbrev main_call0_v1 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_c_14 : Ref sig .tc := ⟨.hbm, 98, rfl⟩
abbrev main_call2_call0_cst : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_call0_cst_0 : Ref sig .tc := ⟨.hbm, 102, rfl⟩
abbrev main_call2_call0_v2 : Ref sig .tc := ⟨.hbm, 103, rfl⟩
abbrev main_call2_call0_v3 : Ref sig .tc := ⟨.hbm, 104, rfl⟩
abbrev main_call2_call0_v4 : Ref sig .tc := ⟨.hbm, 105, rfl⟩
abbrev main_call2_call0_v5 : Ref sig .tc := ⟨.hbm, 106, rfl⟩
abbrev main_call2_call0_v6 : Ref sig .tc := ⟨.hbm, 107, rfl⟩
abbrev main_call2_call0_v7 : Ref sig .tc := ⟨.hbm, 108, rfl⟩
abbrev main_call2_call0_cst_1 : Ref sig .tc := ⟨.hbm, 109, rfl⟩
abbrev main_call2_call0_v8 : Ref sig .tc := ⟨.hbm, 110, rfl⟩
abbrev main_call2_call0_cst_2 : Ref sig .tc := ⟨.hbm, 111, rfl⟩
abbrev main_call2_call0_v9 : Ref sig .tc := ⟨.hbm, 112, rfl⟩
abbrev main_call2_call0_v10 : Ref sig .tc := ⟨.hbm, 113, rfl⟩
abbrev main_call2_call0_v11 : Ref sig .tc := ⟨.hbm, 114, rfl⟩
abbrev main_call2_call0_cst_3 : Ref sig .tc := ⟨.hbm, 115, rfl⟩
abbrev main_call2_call0_v12 : Ref sig .tc := ⟨.hbm, 116, rfl⟩
abbrev main_call2_call0_cst_4 : Ref sig .tc := ⟨.hbm, 117, rfl⟩
abbrev main_call2_call0_call0_v0 : Ref sig .tc := ⟨.hbm, 118, rfl⟩
abbrev main_call2_call0_call0_v1 : Ref sig .tc := ⟨.hbm, 119, rfl⟩
abbrev main_call2_v0 : Ref sig .tc := ⟨.hbm, 120, rfl⟩
abbrev main_v72 : Ref sig .tc := ⟨.hbm, 121, rfl⟩
abbrev main_cst_15 : Ref sig .tc := ⟨.hbm, 122, rfl⟩
abbrev main_v73 : Ref sig .tc := ⟨.hbm, 123, rfl⟩
abbrev main_cst_16 : Ref sig .tc := ⟨.hbm, 124, rfl⟩
abbrev main_v74 : Ref sig .tc := ⟨.hbm, 125, rfl⟩
abbrev main_v75 : Ref sig .tc := ⟨.hbm, 126, rfl⟩

abbrev nD : Nat := 1
abbrev τ : Topo := Topo.v7x

variable {F : FTy → Type} [FloatOps F]
-- ==== Proof.Select.lean ====
/- Selecting the least entries of a finite family of extended reals one after another, the first among equals, and
   putting infinity where one was selected: the places selected are the first places of the stable sort of the family,
   as long as no entry is infinite. -/
module

public import Idealize.ShloMosaic.Lib.SortPrefix
public import Idealize.ShloMosaic.PureOps.Ideal

@[expose] public section

noncomputable section

namespace Cert.Select

open Idealize.ShloMosaic

variable {n : ℕ}

/-- `j` is the first place where the least entry of `f` stands. -/
def IsFirstMin (f : Fin n → EReal) (j : Fin n) : Prop := ∀ k, f j ≤ f k ∧ (k < j → f j < f k)

theorem IsFirstMin.unique {f : Fin n → EReal} {i j : Fin n} (hi : IsFirstMin f i) (hj : IsFirstMin f j) : i = j := by
  rcases lt_trichotomy i j with h | h | h
  · exact absurd ((hj i).2 h) (not_lt.mpr (hi j).1)
  · exact h
  · exact absurd ((hi j).2 h) (not_lt.mpr (hj i).1)

theorem exists_isFirstMin [NeZero n] (f : Fin n → EReal) : ∃ j, IsFirstMin f j := by
  classical
  obtain ⟨a, -, ha⟩ := Finset.exists_min_image (Finset.univ : Finset (Fin n)) f ⟨0, Finset.mem_univ _⟩
  obtain ⟨j, hj, hmin⟩ := Finset.exists_min_image (Finset.univ.filter fun k => ∀ l, f k ≤ f l) id
    ⟨a, by simpa using fun l => ha l (Finset.mem_univ l)⟩
  refine ⟨j, fun k => ⟨(Finset.mem_filter.mp hj).2 k, fun hk => ?_⟩⟩
  rcases lt_or_eq_of_le ((Finset.mem_filter.mp hj).2 k) with h | h
  · exact h
  · exact absurd (hmin k (Finset.mem_filter.mpr ⟨Finset.mem_univ k, fun l => h ▸ (Finset.mem_filter.mp hj).2 l⟩))
      (not_le.mpr hk)

variable [NeZero n]

/-- The first place where the least entry stands. -/
def firstMin (f : Fin n → EReal) : Fin n := (exists_isFirstMin f).choose

theorem firstMin_spec (f : Fin n → EReal) : IsFirstMin f (firstMin f) := (exists_isFirstMin f).choose_spec

theorem firstMin_eq {f : Fin n → EReal} {j : Fin n} (h : IsFirstMin f j) : firstMin f = j :=
  (firstMin_spec f).unique h

/-- The family after some selections. -/
def left (f : Fin n → EReal) : ℕ → Fin n → EReal
  | 0 => f
  | r + 1 => fun k => if k = firstMin (left f r) then ⊤ else left f r k

/-- The place selected in round `r`. -/
def pick (f : Fin n → EReal) (r : ℕ) : Fin n := firstMin (left f r)

theorem left_succ (f : Fin n → EReal) (r : ℕ) (k : Fin n) :
    left f (r + 1) k = if k = pick f r then ⊤ else left f r k := rfl

theorem left_of_picked (f : Fin n → EReal) {r s : ℕ} (h : s < r) : left f r (pick f s) = ⊤ := by
  induction r with
  | zero => exact absurd h (Nat.not_lt_zero s)
  | succ r ih =>
    rw [left_succ]
    split
    · rfl
    · rename_i hne
      rcases Nat.lt_succ_iff_lt_or_eq.mp h with h' | h'
      · exact ih h'
      · exact absurd (h' ▸ rfl) hne

theorem left_of_not_picked (f : Fin n → EReal) {r : ℕ} {k : Fin n} (h : ∀ s < r, pick f s ≠ k) : left f r k = f k := by
  induction r with
  | zero => rfl
  | succ r ih =>
    rw [left_succ, if_neg fun e => h r (Nat.lt_succ_self r) e.symm]
    exact ih fun s hs => h s (Nat.lt_succ_of_lt hs)

/-- Fewer rounds than places leave a place which is not selected. -/
theorem exists_not_picked (f : Fin n → EReal) {r : ℕ} (hr : r < n) : ∃ k, ∀ s < r, pick f s ≠ k := by
  classical
  by_contra hc
  push Not at hc
  have : (Finset.univ : Finset (Fin n)) ⊆ (Finset.range r).image (pick f) := fun k _ => by
    obtain ⟨s, hs, e⟩ := hc k
    exact Finset.mem_image.mpr ⟨s, Finset.mem_range.mpr hs, e⟩
  have := (Finset.card_le_card this).trans Finset.card_image_le
  simp at this
  omega

variable {f : Fin n → EReal} (hf : ∀ k, f k ≠ ⊤)
include hf

/-- A place is selected once. -/
theorem pick_ne {r s : ℕ} (hr : r < n) (h : s < r) : pick f s ≠ pick f r := fun e => by
  obtain ⟨k, hk⟩ := exists_not_picked f hr
  have h1 := (firstMin_spec (left f r) k).1
  rw [left_of_not_picked f hk] at h1
  have h2 : left f r (pick f r) = ⊤ := e ▸ left_of_picked f h
  exact hf k (top_le_iff.mp (h2 ▸ h1))

/-- What is selected in round `r` is at most every entry not selected before, and before it among equals. -/
theorem pick_le {r : ℕ} (hr : r < n) {k : Fin n} (hk : ∀ s < r, pick f s ≠ k) :
    f (pick f r) ≤ f k ∧ (k < pick f r → f (pick f r) < f k) := by
  have h := firstMin_spec (left f r) k
  rwa [left_of_not_picked f hk, show left f r (firstMin (left f r)) = f (pick f r) from
    left_of_not_picked f fun s hs => pick_ne hf hr hs] at h

theorem pick_injOn {r s : ℕ} (hr : r < n) (hs : s < n) (e : pick f r = pick f s) : r = s := by
  rcases lt_trichotomy r s with h | h | h
  · exact absurd e (pick_ne hf hs h)
  · exact h
  · exact absurd e.symm (pick_ne hf hr h)

omit hf in
/-- The stable sort compares a later element with an earlier one only, so that at a tie the position decides. -/
theorem sortedFrom_tie (R R' : Fin n → Fin n → Bool) (h : ∀ a b, a < b → R b a = R' b a) : sortedFrom R = sortedFrom R' := by
  have key : ∀ l : List (Fin n), l.Pairwise (· < ·) → stableSort R l = stableSort R' l := by
    intro l hl
    induction l with
    | nil => rfl
    | cons a l ih =>
      rw [List.pairwise_cons] at hl
      unfold stableSort
      rw [ih hl.2]
      exact insertBefore_congr R R' a _ fun b hb => h a b (hl.1 b ((perm_stableSort R' l).mem_iff.mp hb))
  funext k
  unfold sortedFrom
  rw [List.get_of_eq (show sortPositions n R = sortPositions n R' from key _ (List.pairwise_lt_finRange n))]
  rfl

/-- The places of the stable sort of the family, least first, are the places selected. -/
theorem sortedFrom_eq_pick (R : Fin n → Fin n → Bool) (hR : ∀ a b, R a b = decide (f a < f b)) {K : ℕ} (hK : K ≤ n)
    (r : Fin K) : sortedFrom R (r.castLE hK) = pick f r := by
  classical
  have hlt : ∀ i : Fin K, (i : ℕ) < n := fun i => lt_of_lt_of_le i.2 hK
  have hB := StrictTotalBefore.of_key_then_position (fun x y : EReal => decide (x < y)) f (by simp)
    (fun a b c hab hbc => by simp only [decide_eq_true_eq] at *; exact lt_trans hab hbc)
    (fun a b => by simp only [decide_eq_true_eq]; exact lt_trichotomy a b)
  rw [sortedFrom_tie R _ (R' := fun k k' => decide (f k < f k') || (decide (f k = f k') && decide (k < k')))]
  · refine hB.sortedFrom_eq_of_prefix hK (fun i => pick f i) (fun i j e => Fin.ext (pick_injOn hf (hlt i) (hlt j) e)) ?_ ?_ r
    · intro i j hij
      have h := pick_le hf (hlt i) (k := pick f j) fun s hs => pick_ne hf (hlt j) (lt_trans hs hij)
      simp only [Bool.or_eq_false_iff, Bool.and_eq_false_iff, decide_eq_false_iff_not, not_lt]
      refine ⟨h.1, ?_⟩
      by_cases hl : pick f j < pick f i
      · exact Or.inl fun e => absurd (h.2 hl) (not_lt.mpr e.le)
      · exact Or.inr (not_lt.mp hl)
    · intro i p hp
      have h := pick_le hf (hlt i) (k := p) fun s hs => hp ⟨s, lt_trans hs i.2⟩
      simp only [Bool.or_eq_false_iff, Bool.and_eq_false_iff, decide_eq_false_iff_not, not_lt]
      refine ⟨h.1, ?_⟩
      by_cases hl : p < pick f i
      · exact Or.inl fun e => absurd (h.2 hl) (not_lt.mpr e.le)
      · exact Or.inr (not_lt.mp hl)
  · intro a b hab
    rw [hR]
    simp [not_lt.mpr hab.le]

end Cert.Select

end
-- ==== Proof.Spec.lean ====
/- The mathematics both programs compute: squared distances, the neighbours of a point, the covariance of a
   neighbourhood, and the two ways of writing that covariance. -/
module

public import proofs.«01_k».proof.Proof.Select
public import Idealize.ShloMosaic.PureOps.Ideal.Laws
public import Idealize.ShloMosaic.Lib.ValueIdx
public import Idealize.ShloMosaic.Lib.IdealHost

@[expose] public section

set_option maxRecDepth 16384

noncomputable section

namespace Cert.Spec

open Idealize.ShloMosaic Idealize.ShloMosaic.ValueIdx Cert.Select

/-- The points (or the normals) of the four clouds. -/
abbrev Cloud : Type := (⟨3, ![4, 4096, 3]⟩ : Shape).Idx → EReal

/-- The number two of both programs. -/
def two : EReal := Ideal.ofBits .f32 0x40000000#32

theorem two_eq : two = ((2 : ℝ) : EReal) := by
  unfold two
  simp [Ideal.ofBits, Ideal.ieee, -EReal.coe_mul]; norm_num

/-- The number of neighbours. -/
def num : EReal := Ideal.ofBits .f32 0x42000000#32

theorem num_eq : num = ((32 : ℝ) : EReal) := by
  unfold num
  simp [Ideal.ofBits, Ideal.ieee, -EReal.coe_mul]; norm_num

/-- The squared norm of a point. -/
def sq (X : Cloud) (b : Fin 4) (n : Fin 4096) : EReal := ∑ k : Fin 3, X (ix3 b n k) * X (ix3 b n k)

/-- The scalar product of two points. -/
def dot (X : Cloud) (b : Fin 4) (n m : Fin 4096) : EReal := ∑ k : Fin 3, X (ix3 b n k) * X (ix3 b m k)

/-- The squared distances of a point to all points. -/
def dist (X : Cloud) (b : Fin 4) (n : Fin 4096) : Fin 4096 → EReal :=
  fun m => max (sq X b n + sq X b m - two * dot X b n m) 0

/-- The neighbour of rank `r` of a point. -/
def nb (X : Cloud) (b : Fin 4) (n : Fin 4096) (r : ℕ) : Fin 4096 := pick (dist X b n) r

/-- Every coordinate is a real number. -/
def Real' (X : Cloud) : Prop := ∃ R : (⟨3, ![4, 4096, 3]⟩ : Shape).Idx → ℝ, X = fun i => ((R i : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem dist_ne_top {X : Cloud} (h : Real' X) (b : Fin 4) (n m : Fin 4096) : dist X b n m ≠ ⊤ := by
  obtain ⟨R, rfl⟩ := h
  unfold dist sq dot
  simp only [← EReal.coe_mul, coe_sum, two_eq]
  rw [← EReal.coe_add, ← EReal.coe_sub]
  rcases max_choice (((∑ i, R (ix3 b n i) * R (ix3 b n i) + ∑ i, R (ix3 b m i) * R (ix3 b m i) -
          2 * ∑ i, R (ix3 b n i) * R (ix3 b m i) : ℝ)) : EReal) 0 with h | h <;> rw [h]
  · exact EReal.coe_ne_top _
  · exact EReal.zero_ne_top

/-- The mean of a coordinate over a neighbourhood. -/
def mean (X : Cloud) (b : Fin 4) (n : Fin 4096) (i : Fin 3) : EReal :=
  Ideal.div (∑ r : Fin 32, X (ix3 b (nb X b n r) i)) num

/-- The covariance of two coordinates over a neighbourhood: the mean of the products of the centred coordinates. -/
def cov (X : Cloud) (b : Fin 4) (n : Fin 4096) (i j : Fin 3) : EReal :=
  Ideal.div (∑ r : Fin 32, (X (ix3 b (nb X b n r) i) - mean X b n i) * (X (ix3 b (nb X b n r) j) - mean X b n j)) num

/-- The same as the mean of the products less the product of the means. -/
def cov' (X : Cloud) (b : Fin 4) (n : Fin 4096) (i j : Fin 3) : EReal :=
  Ideal.div (∑ r : Fin 32, X (ix3 b (nb X b n r) i) * X (ix3 b (nb X b n r) j)) num - mean X b n i * mean X b n j

theorem cov_real (x y : Fin 32 → ℝ) :
    (∑ r, (x r - (∑ r, x r) * (1 / 32)) * (y r - (∑ r, y r) * (1 / 32))) * (1 / 32)
      = (∑ r, x r * y r) * (1 / 32) - (∑ r, x r) * (1 / 32) * ((∑ r, y r) * (1 / 32)) := by
  generalize hx : (∑ r, x r) * (1 / 32) = mx
  generalize hy : (∑ r, y r) * (1 / 32) = my
  have e : ∀ r, (x r - mx) * (y r - my) = x r * y r - my * x r - mx * y r + mx * my := fun r => by ring
  simp only [e, Finset.sum_add_distrib, Finset.sum_sub_distrib, ← Finset.mul_sum, Finset.sum_const, Finset.card_univ,
    Fintype.card_fin, nsmul_eq_mul]
  rw [show ∑ r, x r = 32 * mx by rw [← hx]; ring, show ∑ r, y r = 32 * my by rw [← hy]; ring]
  push_cast
  ring

/-- The two covariances agree on real coordinates. -/
theorem cov_eq {X : Cloud} (h : Real' X) (b : Fin 4) (n : Fin 4096) (i j : Fin 3) : cov' X b n i j = cov X b n i j := by
  unfold cov' cov mean
  generalize nb X b n = p
  obtain ⟨R, rfl⟩ := h
  simp only [num_eq, Ideal.div_coe (show (32 : ℝ) ≠ 0 by norm_num), coe_sum, ← EReal.coe_mul, ← EReal.coe_sub]
  rw [cov_real]

/-- The first coordinate of an entry on or above the diagonal. -/
def fst6 : Fin 6 → Fin 3 := ![0, 0, 0, 1, 1, 2]

/-- The second coordinate of an entry on or above the diagonal. -/
def snd6 : Fin 6 → Fin 3 := ![0, 1, 2, 1, 2, 2]

/-- A sum over all places, weighted by one at some distinct places and zero elsewhere, is the sum over those places. -/
theorem sum_hot {n : ℕ} (p : ℕ → Fin n) (K : ℕ) (hp : ∀ r < K, ∀ s < K, p r = p s → r = s) (f : Fin n → EReal)
    [∀ k, Decidable (∃ s < K, p s = k)] :
    ∑ k, (if ∃ s < K, p s = k then (1 : EReal) else 0) * f k = ∑ r : Fin K, f (p r) := by
  classical
  have e : ∀ k, (if ∃ s < K, p s = k then (1 : EReal) else 0) * f k
      = if k ∈ (Finset.univ : Finset (Fin K)).image (fun r : Fin K => p r) then f k else 0 := fun k => by
    have hk : (∃ s < K, p s = k) ↔ k ∈ (Finset.univ : Finset (Fin K)).image (fun r : Fin K => p r) := by
      simp only [Finset.mem_image, Finset.mem_univ, true_and]
      exact ⟨fun ⟨s, hs, he⟩ => ⟨⟨s, hs⟩, he⟩, fun ⟨s, he⟩ => ⟨s.val, s.isLt, he⟩⟩
    by_cases h : ∃ s < K, p s = k
    · rw [if_pos h, if_pos (hk.mp h), one_mul]
    · rw [if_neg h, if_neg (fun hh => h (hk.mpr hh)), zero_mul]
  simp only [e]
  rw [Finset.sum_ite_mem, Finset.univ_inter, Finset.sum_image]
  intro r _ s _ he
  exact Fin.ext (hp r r.isLt s s.isLt he)

/-- The neighbours are distinct. -/
theorem nb_inj {X : Cloud} (h : Real' X) (b : Fin 4) (n : Fin 4096) {r s : ℕ} (hr : r < 4096) (hs : s < 4096)
    (e : nb X b n r = nb X b n s) : r = s :=
  pick_injOn (dist_ne_top h b n) hr hs e

end Cert.Spec

end
-- ==== Proof.Penalty.lean ====
/- The second result both programs compute: how much the normals around a point spread, averaged over a cloud. -/
module

public import proofs.«01_k».proof.Proof.Spec

@[expose] public section

set_option maxRecDepth 16384

noncomputable section

namespace Cert.Spec

open Idealize.ShloMosaic Idealize.ShloMosaic.ValueIdx Cert.Select

/-- The least length a vector is divided by. -/
def eps : EReal := Ideal.ofBits .f32 0x358637BD#32

/-- The length of a vector, at least `eps`. -/
def len (x : Fin 3 → EReal) : EReal := max (Ideal.sqrt (∑ k, x k * x k)) eps

/-- One minus the cosine of two vectors. -/
def pen (x y : Fin 3 → EReal) : EReal := 1 - Ideal.div (∑ k, x k * y k) (len x * len y)

/-- The number of normals compared. -/
def eight : EReal := Ideal.ofBits .f32 0x41000000#32

/-- One less. -/
def seven : EReal := Ideal.ofBits .f32 0x40E00000#32

/-- The number of points of a cloud. -/
def total : EReal := Ideal.ofBits .f32 0x45800000#32

theorem eight_eq : eight = ((8 : ℝ) : EReal) := by
  unfold eight
  simp [Ideal.ofBits, Ideal.ieee, -EReal.coe_mul]; norm_num

theorem seven_eq : seven = ((7 : ℝ) : EReal) := by
  unfold seven
  simp [Ideal.ofBits, Ideal.ieee, -EReal.coe_mul]; norm_num

theorem total_eq : total = ((4096 : ℝ) : EReal) := by
  unfold total
  simp [Ideal.ofBits, Ideal.ieee, -EReal.coe_mul]; norm_num

/-- The mean of eight numbers. -/
def avg (p : Fin 8 → EReal) : EReal := Ideal.div (∑ r, p r) eight

/-- Their sample standard deviation. -/
def sd (p : Fin 8 → EReal) : EReal := Ideal.sqrt (Ideal.div (∑ r, (p r - avg p) * (p r - avg p)) seven)

/-- The normal at a point. -/
def nrm (N : Cloud) (b : Fin 4) (m : Fin 4096) : Fin 3 → EReal := fun k => N (ix3 b m k)

/-- The normals of the first eight neighbours compared with the first one. -/
def pens (X N : Cloud) (b : Fin 4) (n : Fin 4096) : Fin 8 → EReal :=
  fun r => pen (nrm N b (nb X b n 0)) (nrm N b (nb X b n r.val))

/-- The mean spread of a cloud. -/
def penalty (X N : Cloud) (b : Fin 4) : EReal := Ideal.div (∑ n, sd (pens X N b n)) total

/-- A division by the number of points goes through a sum. -/
theorem div_total_add (x y : EReal) : Ideal.div (x + y) total = Ideal.div x total + Ideal.div y total := by
  rw [total_eq, Ideal.div_coe (by norm_num), Ideal.div_coe (by norm_num), Ideal.div_coe (by norm_num), mul_comm, mul_comm x,
    mul_comm y]
  exact EReal.left_distrib_of_nonneg_of_ne_top (by exact_mod_cast (by norm_num : (0 : ℝ) ≤ 1 / 4096)) (EReal.coe_ne_top _) x y

/-- Four tiles of a cloud put together. -/
theorem sum_tiles (f : Fin 4096 → EReal) :
    ∑ n, f n = ∑ q : Fin 4, ∑ a : Fin 1024, f ⟨q.val * 1024 + a.val, by have := q.isLt; have := a.isLt; omega⟩ := by
  have e := (finProdFinEquiv (m := 4) (n := 1024)).sum_comp (fun k : Fin (4 * 1024) => f ⟨k.val, k.isLt⟩)
  rw [Fintype.sum_prod_type] at e
  refine e.symm.trans (Finset.sum_congr rfl fun q _ => Finset.sum_congr rfl fun a _ => congrArg f (Fin.ext ?_))
  show a.val + 1024 * q.val = q.val * 1024 + a.val
  omega

/-- The mean of a cloud from the means of its tiles. -/
theorem penalty_tiles (f : Fin 4 → EReal) :
    0 + Ideal.div (f 0) total + Ideal.div (f 1) total + Ideal.div (f 2) total + Ideal.div (f 3) total
      = Ideal.div (∑ q, f q) total := by
  rw [Fin.sum_univ_four, div_total_add, div_total_add, div_total_add, zero_add]

end Cert.Spec

end
-- ==== Proof.Rounds.lean ====
/- The rounds of the neighbour search. Every round finds the least entry of each row of `d`, the first place where it
   stands, and puts infinity there; `w` is set to one at the same place. Each value of the kernel's unrolled rounds is
   the corresponding iterate of one round. -/
module

public import proofs.«01_k».proof.Proof.Gen.KernelIdeal.Skeleton

@[expose] public section

set_option maxRecDepth 16384

noncomputable section

namespace Cert.KernelIdeal.Rounds

open Idealize.ShloMosaic Idealize.SL.Sem Cert.KernelIdeal Cert.KernelIdeal.Gen

variable {F : FTy → Type} [FloatOps F]

/-- The least entry of each row, as a column. -/
def minC (d : FVec F S1024x4096 .f32) : FVec F S1024x1 .f32 :=
  shapeCast S1024x1 (multiReduction .minimumf [1] S1024 d 0x7F800000#32 reduces_S1024x4096_S1024 (.inl rfl) rfl)
    shapeCasts_S1024_S1024x1

/-- The least entry of each row, at every place of the row. -/
def minV (d : FVec F S1024x4096 .f32) : FVec F S1024x4096 .f32 :=
  broadcastTo S1024x4096 (minC d) broadcasts_S1024x1_S1024x4096

/-- Where the least entry of the row stands. -/
def eqV (d : FVec F S1024x4096 .f32) : IVec S1024x4096 1 := cmpf .oeq d (minV d)

/-- The place where no entry stands: a number above every place. -/
def noneV : IVec S1024x4096 32 := broadcast S1024x4096 1073741824#32

/-- The place where the least entry stands, and a number above every place elsewhere. -/
def candV (it : IVec S1024x4096 32) (d : FVec F S1024x4096 .f32) : IVec S1024x4096 32 := select (eqV d) it noneV

/-- The first place of each row where its least entry stands. -/
def pickRaw (it : IVec S1024x4096 32) (d : FVec F S1024x4096 .f32) : IVec S1024 32 :=
  multiReductionI .minsi [1] S1024 (candV it d) 2147483647#32 reduces_S1024x4096_S1024 rfl

/-- The same, as a column. -/
def pickV (it : IVec S1024x4096 32) (d : FVec F S1024x4096 .f32) : IVec S1024x1 32 :=
  shapeCast S1024x1 (pickRaw it d) shapeCasts_S1024_S1024x1

/-- Whether a place is the picked one of its row. -/
def hotV (it : IVec S1024x4096 32) (d : FVec F S1024x4096 .f32) : IVec S1024x4096 1 :=
  cmpi .eq it (broadcastTo S1024x4096 (pickV it d) broadcasts_S1024x1_S1024x4096)

/-- Infinity at the picked place. -/
def nextD (it : IVec S1024x4096 32) (d : FVec F S1024x4096 .f32) : FVec F S1024x4096 .f32 :=
  select (hotV it d) (broadcast S1024x4096 (Scalar.ofBits .f32 0x7F800000#32)) d

/-- One at the picked place. -/
def nextW (it : IVec S1024x4096 32) (d w : FVec F S1024x4096 .f32) : FVec F S1024x4096 .f32 :=
  select (hotV it d) (broadcast S1024x4096 (Scalar.ofBits .f32 0x3F800000#32)) w

/-- `d` after some rounds. -/
def iterD (it : IVec S1024x4096 32) (d : FVec F S1024x4096 .f32) : ℕ → FVec F S1024x4096 .f32
  | 0 => d
  | n + 1 => nextD it (iterD it d n)

/-- `w` after some rounds. -/
def iterW (it : IVec S1024x4096 32) (d w : FVec F S1024x4096 .f32) : ℕ → FVec F S1024x4096 .f32
  | 0 => w
  | n + 1 => nextW it (iterD it d n) (iterW it d w n)

theorem k0_pay8_eq (it : IVec S1024x4096 32) (d : FVec F S1024x4096 .f32) :
    k0_pay8 (F := F) it (iterD it d 1) = pickV it (iterD it d 1) := by
  unfold k0_pay8; rfl

theorem k0_pay9_eq (it : IVec S1024x4096 32) (d : FVec F S1024x4096 .f32) :
    k0_pay9 (F := F) it (iterD it d 1) = hotV it (iterD it d 1) := by
  unfold k0_pay9; simp only [k0_pay8_eq]; rfl

theorem k0_pay10_eq (it : IVec S1024x4096 32) (d : FVec F S1024x4096 .f32) :
    k0_pay10 (F := F) it (iterD it d 1) = iterD it d 2 := by
  unfold k0_pay10; simp only [k0_pay9_eq]; rfl

theorem k0_pay11_eq (it : IVec S1024x4096 32) (d : FVec F S1024x4096 .f32) :
    k0_pay11 (F := F) it (iterD it d 1) = pickV it (iterD it d 2) := by
  unfold k0_pay11; simp only [k0_pay10_eq]; rfl

theorem k0_pay12_eq (it : IVec S1024x4096 32) (d : FVec F S1024x4096 .f32) :
    k0_pay12 (F := F) it (iterD it d 1) = hotV it (iterD it d 2) := by
  unfold k0_pay12; simp only [k0_pay11_eq]; rfl

theorem k0_pay13_eq (it : IVec S1024x4096 32) (d : FVec F S1024x4096 .f32) :
    k0_pay13 (F := F) it (iterD it d 1) = iterD it d 3 := by
  unfold k0_pay13; simp only [k0_pay10_eq, k0_pay12_eq]; rfl

theorem k0_pay14_eq (it : IVec S1024x4096 32) (d : FVec F S1024x4096 .f32) :
    k0_pay14 (F := F) it (iterD it d 1) = pickV it (iterD it d 3) := by
  unfold k0_pay14; simp only [k0_pay13_eq]; rfl

theorem k0_pay15_eq (it : IVec S1024x4096 32) (d : FVec F S1024x4096 .f32) :
    k0_pay15 (F := F) it (iterD it d 1) = hotV it (iterD it d 3) := by
  unfold k0_pay15; simp only [k0_pay14_eq]; rfl

theorem k0_pay16_eq (it : IVec S1024x4096 32) (d : FVec F S1024x4096 .f32) (w : FVec F S1024x4096 .f32) :
    k0_pay16 (F := F) it (iterW it d w 1) (iterD it d 1) = iterW it d w 4 := by
  unfold k0_pay16; simp only [k0_pay9_eq, k0_pay12_eq, k0_pay15_eq]; rfl

theorem k0_pay17_eq (it : IVec S1024x4096 32) (d : FVec F S1024x4096 .f32) :
    k0_pay17 (F := F) it (iterD it d 1) = iterD it d 4 := by
  unfold k0_pay17; simp only [k0_pay13_eq, k0_pay15_eq]; rfl

theorem k0_pay18_eq (it : IVec S1024x4096 32) (d : FVec F S1024x4096 .f32) :
    k0_pay18 (F := F) it (iterD it d 1) = minV (iterD it d 4) := by
  unfold k0_pay18; simp only [k0_pay17_eq]; rfl

theorem k0_pay19_eq (it : IVec S1024x4096 32) (d : FVec F S1024x4096 .f32) :
    k0_pay19 (F := F) it (iterD it d 4) (minV (iterD it d 4)) = pickV it (iterD it d 4) := by
  unfold k0_pay19; rfl

theorem k0_pay20_eq (it : IVec S1024x4096 32) (d : FVec F S1024x4096 .f32) :
    k0_pay20 (F := F) it (iterD it d 4) (minV (iterD it d 4)) = hotV it (iterD it d 4) := by
  unfold k0_pay20; simp only [k0_pay19_eq]; rfl

theorem k0_pay21_eq (it : IVec S1024x4096 32) (d : FVec F S1024x4096 .f32) :
    k0_pay21 (F := F) it (iterD it d 4) (minV (iterD it d 4)) = iterD it d 5 := by
  unfold k0_pay21; simp only [k0_pay20_eq]; rfl

theorem k0_pay22_eq (it : IVec S1024x4096 32) (d : FVec F S1024x4096 .f32) :
    k0_pay22 (F := F) it (iterD it d 4) (minV (iterD it d 4)) = pickV it (iterD it d 5) := by
  unfold k0_pay22; simp only [k0_pay21_eq]; rfl

theorem k0_pay23_eq (it : IVec S1024x4096 32) (d : FVec F S1024x4096 .f32) :
    k0_pay23 (F := F) it (iterD it d 4) (minV (iterD it d 4)) = hotV it (iterD it d 5) := by
  unfold k0_pay23; simp only [k0_pay22_eq]; rfl

theorem k0_pay24_eq (it : IVec S1024x4096 32) (d : FVec F S1024x4096 .f32) :
    k0_pay24 (F := F) it (iterD it d 4) (minV (iterD it d 4)) = iterD it d 6 := by
  unfold k0_pay24; simp only [k0_pay21_eq, k0_pay23_eq]; rfl

theorem k0_pay25_eq (it : IVec S1024x4096 32) (d : FVec F S1024x4096 .f32) :
    k0_pay25 (F := F) it (iterD it d 4) (minV (iterD it d 4)) = pickV it (iterD it d 6) := by
  unfold k0_pay25; simp only [k0_pay24_eq]; rfl

theorem k0_pay26_eq (it : IVec S1024x4096 32) (d : FVec F S1024x4096 .f32) :
    k0_pay26 (F := F) it (iterD it d 4) (minV (iterD it d 4)) = hotV it (iterD it d 6) := by
  unfold k0_pay26; simp only [k0_pay25_eq]; rfl

theorem k0_pay27_eq (it : IVec S1024x4096 32) (d : FVec F S1024x4096 .f32) (w : FVec F S1024x4096 .f32) :
    k0_pay27 (F := F) it (iterW it d w 4) (iterD it d 4) (minV (iterD it d 4)) = iterW it d w 7 := by
  unfold k0_pay27; simp only [k0_pay20_eq, k0_pay23_eq, k0_pay26_eq]; rfl

theorem k0_pay28_eq (it : IVec S1024x4096 32) (d : FVec F S1024x4096 .f32) :
    k0_pay28 (F := F) it (iterD it d 4) (minV (iterD it d 4)) = iterD it d 7 := by
  unfold k0_pay28; simp only [k0_pay24_eq, k0_pay26_eq]; rfl

theorem k0_pay29_eq (it : IVec S1024x4096 32) (d : FVec F S1024x4096 .f32) :
    k0_pay29 (F := F) it (iterD it d 4) (minV (iterD it d 4)) = eqV (iterD it d 7) := by
  unfold k0_pay29; simp only [k0_pay28_eq]; rfl

theorem k0_pay30_eq :
    k0_pay30  = noneV := by
  unfold k0_pay30; rfl

theorem k0_pay31_eq (it : IVec S1024x4096 32) (d : FVec F S1024x4096 .f32) :
    k0_pay31 it (eqV (iterD it d 7)) (noneV) = pickV it (iterD it d 7) := by
  unfold k0_pay31; rfl

theorem k0_pay32_eq (it : IVec S1024x4096 32) (d : FVec F S1024x4096 .f32) :
    k0_pay32 it (eqV (iterD it d 7)) (noneV) = hotV it (iterD it d 7) := by
  unfold k0_pay32; simp only [k0_pay31_eq]; rfl

theorem k0_pay33_eq (it : IVec S1024x4096 32) (d : FVec F S1024x4096 .f32) :
    k0_pay33 (F := F) it (iterD it d 7) (eqV (iterD it d 7)) (noneV) = iterD it d 8 := by
  unfold k0_pay33; simp only [k0_pay32_eq]; rfl

theorem k0_pay34_eq (it : IVec S1024x4096 32) (d : FVec F S1024x4096 .f32) :
    k0_pay34 (F := F) it (iterD it d 7) (eqV (iterD it d 7)) (noneV) = hotV it (iterD it d 8) := by
  unfold k0_pay34; simp only [k0_pay33_eq]; rfl

theorem k0_pay35_eq (it : IVec S1024x4096 32) (d : FVec F S1024x4096 .f32) :
    k0_pay35 (F := F) it (iterD it d 7) (eqV (iterD it d 7)) (noneV) = iterD it d 9 := by
  unfold k0_pay35; simp only [k0_pay33_eq, k0_pay34_eq]; rfl

theorem k0_pay36_eq (it : IVec S1024x4096 32) (d : FVec F S1024x4096 .f32) :
    k0_pay36 (F := F) it (iterD it d 7) (eqV (iterD it d 7)) (noneV) = hotV it (iterD it d 9) := by
  unfold k0_pay36; simp only [k0_pay35_eq]; rfl

theorem k0_pay37_eq (it : IVec S1024x4096 32) (d : FVec F S1024x4096 .f32) (w : FVec F S1024x4096 .f32) :
    k0_pay37 (F := F) it (iterW it d w 7) (iterD it d 7) (eqV (iterD it d 7)) (noneV) = iterW it d w 10 := by
  unfold k0_pay37; simp only [k0_pay32_eq, k0_pay34_eq, k0_pay36_eq]; rfl

theorem k0_pay38_eq (it : IVec S1024x4096 32) (d : FVec F S1024x4096 .f32) :
    k0_pay38 (F := F) it (iterD it d 7) (eqV (iterD it d 7)) (noneV) = iterD it d 10 := by
  unfold k0_pay38; simp only [k0_pay35_eq, k0_pay36_eq]; rfl

theorem k0_pay39_eq (it : IVec S1024x4096 32) (d : FVec F S1024x4096 .f32) :
    k0_pay39 (F := F) it (iterD it d 7) (eqV (iterD it d 7)) (noneV) = pickRaw it (iterD it d 10) := by
  unfold k0_pay39; simp only [k0_pay38_eq]; rfl

theorem k0_pay40_eq (it : IVec S1024x4096 32) (d : FVec F S1024x4096 .f32) :
    k0_pay40 it (pickRaw it (iterD it d 10)) = hotV it (iterD it d 10) := by
  unfold k0_pay40; rfl

theorem k0_pay41_eq (it : IVec S1024x4096 32) (d : FVec F S1024x4096 .f32) :
    k0_pay41 (F := F) it (iterD it d 10) (pickRaw it (iterD it d 10)) = iterD it d 11 := by
  unfold k0_pay41; simp only [k0_pay40_eq]; rfl

theorem k0_pay42_eq (it : IVec S1024x4096 32) (d : FVec F S1024x4096 .f32) :
    k0_pay42 (F := F) it (iterD it d 10) (pickRaw it (iterD it d 10)) = hotV it (iterD it d 11) := by
  unfold k0_pay42; simp only [k0_pay41_eq]; rfl

theorem k0_pay43_eq (it : IVec S1024x4096 32) (d : FVec F S1024x4096 .f32) :
    k0_pay43 (F := F) it (iterD it d 10) (pickRaw it (iterD it d 10)) = iterD it d 12 := by
  unfold k0_pay43; simp only [k0_pay41_eq, k0_pay42_eq]; rfl

theorem k0_pay44_eq (it : IVec S1024x4096 32) (d : FVec F S1024x4096 .f32) :
    k0_pay44 (F := F) it (iterD it d 10) (pickRaw it (iterD it d 10)) = hotV it (iterD it d 12) := by
  unfold k0_pay44; simp only [k0_pay43_eq]; rfl

theorem k0_pay45_eq (it : IVec S1024x4096 32) (d : FVec F S1024x4096 .f32) (w : FVec F S1024x4096 .f32) :
    k0_pay45 (F := F) it (iterW it d w 10) (iterD it d 10) (pickRaw it (iterD it d 10)) = iterW it d w 13 := by
  unfold k0_pay45; simp only [k0_pay40_eq, k0_pay42_eq, k0_pay44_eq]; rfl

theorem k0_pay46_eq (it : IVec S1024x4096 32) (d : FVec F S1024x4096 .f32) :
    k0_pay46 (F := F) it (iterD it d 10) (pickRaw it (iterD it d 10)) = iterD it d 13 := by
  unfold k0_pay46; simp only [k0_pay43_eq, k0_pay44_eq]; rfl

theorem k0_pay47_eq (it : IVec S1024x4096 32) (d : FVec F S1024x4096 .f32) :
    k0_pay47 (F := F) it (iterD it d 10) (pickRaw it (iterD it d 10)) = hotV it (iterD it d 13) := by
  unfold k0_pay47; simp only [k0_pay46_eq]; rfl

theorem k0_pay48_eq (it : IVec S1024x4096 32) (d : FVec F S1024x4096 .f32) :
    k0_pay48 (F := F) (iterD it d 13) (hotV it (iterD it d 13)) = iterD it d 14 := by
  unfold k0_pay48; rfl

theorem k0_pay49_eq (it : IVec S1024x4096 32) (d : FVec F S1024x4096 .f32) :
    k0_pay49 (F := F) it (iterD it d 13) (hotV it (iterD it d 13)) = hotV it (iterD it d 14) := by
  unfold k0_pay49; simp only [k0_pay48_eq]; rfl

theorem k0_pay50_eq (it : IVec S1024x4096 32) (d : FVec F S1024x4096 .f32) :
    k0_pay50 (F := F) it (iterD it d 13) (hotV it (iterD it d 13)) = iterD it d 15 := by
  unfold k0_pay50; simp only [k0_pay48_eq, k0_pay49_eq]; rfl

theorem k0_pay51_eq (it : IVec S1024x4096 32) (d : FVec F S1024x4096 .f32) :
    k0_pay51 (F := F) it (iterD it d 13) (hotV it (iterD it d 13)) = hotV it (iterD it d 15) := by
  unfold k0_pay51; simp only [k0_pay50_eq]; rfl

theorem k0_pay52_eq (it : IVec S1024x4096 32) (d : FVec F S1024x4096 .f32) :
    k0_pay52 (F := F) it (iterD it d 13) (hotV it (iterD it d 13)) = iterD it d 16 := by
  unfold k0_pay52; simp only [k0_pay50_eq, k0_pay51_eq]; rfl

theorem k0_pay53_eq (it : IVec S1024x4096 32) (d : FVec F S1024x4096 .f32) :
    k0_pay53 (F := F) it (iterD it d 13) (hotV it (iterD it d 13)) = hotV it (iterD it d 16) := by
  unfold k0_pay53; simp only [k0_pay52_eq]; rfl

theorem k0_pay54_eq (it : IVec S1024x4096 32) (d : FVec F S1024x4096 .f32) (w : FVec F S1024x4096 .f32) :
    k0_pay54 (F := F) it (iterW it d w 13) (iterD it d 13) (hotV it (iterD it d 13)) = iterW it d w 17 := by
  unfold k0_pay54; simp only [k0_pay49_eq, k0_pay51_eq, k0_pay53_eq]; rfl

theorem k0_pay55_eq (it : IVec S1024x4096 32) (d : FVec F S1024x4096 .f32) :
    k0_pay55 (F := F) (iterD it d 16) (hotV it (iterD it d 16)) = iterD it d 17 := by
  unfold k0_pay55; rfl

theorem k0_pay56_eq (it : IVec S1024x4096 32) (d : FVec F S1024x4096 .f32) :
    k0_pay56 (F := F) it (iterD it d 16) (hotV it (iterD it d 16)) = hotV it (iterD it d 17) := by
  unfold k0_pay56; simp only [k0_pay55_eq]; rfl

theorem k0_pay57_eq (it : IVec S1024x4096 32) (d : FVec F S1024x4096 .f32) :
    k0_pay57 (F := F) it (iterD it d 16) (hotV it (iterD it d 16)) = iterD it d 18 := by
  unfold k0_pay57; simp only [k0_pay55_eq, k0_pay56_eq]; rfl

theorem k0_pay58_eq (it : IVec S1024x4096 32) (d : FVec F S1024x4096 .f32) :
    k0_pay58 (F := F) it (iterD it d 16) (hotV it (iterD it d 16)) = hotV it (iterD it d 18) := by
  unfold k0_pay58; simp only [k0_pay57_eq]; rfl

theorem k0_pay59_eq (it : IVec S1024x4096 32) (d : FVec F S1024x4096 .f32) :
    k0_pay59 (F := F) it (iterD it d 16) (hotV it (iterD it d 16)) = iterD it d 19 := by
  unfold k0_pay59; simp only [k0_pay57_eq, k0_pay58_eq]; rfl

theorem k0_pay60_eq (it : IVec S1024x4096 32) (d : FVec F S1024x4096 .f32) :
    k0_pay60 (F := F) it (iterD it d 16) (hotV it (iterD it d 16)) = hotV it (iterD it d 19) := by
  unfold k0_pay60; simp only [k0_pay59_eq]; rfl

theorem k0_pay61_eq (it : IVec S1024x4096 32) (d : FVec F S1024x4096 .f32) (w : FVec F S1024x4096 .f32) :
    k0_pay61 (F := F) it (iterD it d 16) (hotV it (iterD it d 16)) (iterW it d w 17) = iterW it d w 20 := by
  unfold k0_pay61; simp only [k0_pay56_eq, k0_pay58_eq, k0_pay60_eq]; rfl

theorem k0_pay62_eq (it : IVec S1024x4096 32) (d : FVec F S1024x4096 .f32) :
    k0_pay62 (F := F) it (iterD it d 16) (hotV it (iterD it d 16)) = iterD it d 20 := by
  unfold k0_pay62; simp only [k0_pay59_eq, k0_pay60_eq]; rfl

theorem k0_pay63_eq (it : IVec S1024x4096 32) (d : FVec F S1024x4096 .f32) :
    k0_pay63 (F := F) it (iterD it d 20) = hotV it (iterD it d 20) := by
  unfold k0_pay63; rfl

theorem k0_pay64_eq (it : IVec S1024x4096 32) (d : FVec F S1024x4096 .f32) :
    k0_pay64 (F := F) it (iterD it d 20) = iterD it d 21 := by
  unfold k0_pay64; simp only [k0_pay63_eq]; rfl

theorem k0_pay65_eq (it : IVec S1024x4096 32) (d : FVec F S1024x4096 .f32) :
    k0_pay65 (F := F) it (iterD it d 20) = hotV it (iterD it d 21) := by
  unfold k0_pay65; simp only [k0_pay64_eq]; rfl

theorem k0_pay66_eq (it : IVec S1024x4096 32) (d : FVec F S1024x4096 .f32) :
    k0_pay66 (F := F) it (iterD it d 20) = iterD it d 22 := by
  unfold k0_pay66; simp only [k0_pay64_eq, k0_pay65_eq]; rfl

theorem k0_pay67_eq (it : IVec S1024x4096 32) (d : FVec F S1024x4096 .f32) :
    k0_pay67 (F := F) it (iterD it d 20) = hotV it (iterD it d 22) := by
  unfold k0_pay67; simp only [k0_pay66_eq]; rfl

theorem k0_pay68_eq (it : IVec S1024x4096 32) (d : FVec F S1024x4096 .f32) (w : FVec F S1024x4096 .f32) :
    k0_pay68 (F := F) it (iterW it d w 20) (iterD it d 20) = iterW it d w 23 := by
  unfold k0_pay68; simp only [k0_pay63_eq, k0_pay65_eq, k0_pay67_eq]; rfl

theorem k0_pay69_eq (it : IVec S1024x4096 32) (d : FVec F S1024x4096 .f32) :
    k0_pay69 (F := F) it (iterD it d 20) = iterD it d 23 := by
  unfold k0_pay69; simp only [k0_pay66_eq, k0_pay67_eq]; rfl

theorem k0_pay70_eq (it : IVec S1024x4096 32) (d : FVec F S1024x4096 .f32) :
    k0_pay70 (F := F) it (iterD it d 20) = minC (iterD it d 23) := by
  unfold k0_pay70; simp only [k0_pay69_eq]; rfl

theorem k0_pay71_eq (it : IVec S1024x4096 32) (d : FVec F S1024x4096 .f32) :
    k0_pay71 (F := F) it (iterD it d 23) (minC (iterD it d 23)) = hotV it (iterD it d 23) := by
  unfold k0_pay71; rfl

theorem k0_pay72_eq (it : IVec S1024x4096 32) (d : FVec F S1024x4096 .f32) :
    k0_pay72 (F := F) it (iterD it d 23) (minC (iterD it d 23)) = iterD it d 24 := by
  unfold k0_pay72; simp only [k0_pay71_eq]; rfl

theorem k0_pay73_eq (it : IVec S1024x4096 32) (d : FVec F S1024x4096 .f32) :
    k0_pay73 (F := F) it (iterD it d 23) (minC (iterD it d 23)) = hotV it (iterD it d 24) := by
  unfold k0_pay73; simp only [k0_pay72_eq]; rfl

theorem k0_pay74_eq (it : IVec S1024x4096 32) (d : FVec F S1024x4096 .f32) :
    k0_pay74 (F := F) it (iterD it d 23) (minC (iterD it d 23)) = iterD it d 25 := by
  unfold k0_pay74; simp only [k0_pay72_eq, k0_pay73_eq]; rfl

theorem k0_pay75_eq (it : IVec S1024x4096 32) (d : FVec F S1024x4096 .f32) :
    k0_pay75 (F := F) it (iterD it d 23) (minC (iterD it d 23)) = hotV it (iterD it d 25) := by
  unfold k0_pay75; simp only [k0_pay74_eq]; rfl

theorem k0_pay76_eq (it : IVec S1024x4096 32) (d : FVec F S1024x4096 .f32) (w : FVec F S1024x4096 .f32) :
    k0_pay76 (F := F) it (iterW it d w 23) (iterD it d 23) (minC (iterD it d 23)) = iterW it d w 26 := by
  unfold k0_pay76; simp only [k0_pay71_eq, k0_pay73_eq, k0_pay75_eq]; rfl

theorem k0_pay77_eq (it : IVec S1024x4096 32) (d : FVec F S1024x4096 .f32) :
    k0_pay77 (F := F) it (iterD it d 23) (minC (iterD it d 23)) = iterD it d 26 := by
  unfold k0_pay77; simp only [k0_pay74_eq, k0_pay75_eq]; rfl

theorem k0_pay78_eq (it : IVec S1024x4096 32) (d : FVec F S1024x4096 .f32) :
    k0_pay78 (F := F) it (iterD it d 23) (minC (iterD it d 23)) = eqV (iterD it d 26) := by
  unfold k0_pay78; simp only [k0_pay77_eq]; rfl

theorem k0_pay79_eq (it : IVec S1024x4096 32) (d : FVec F S1024x4096 .f32) :
    k0_pay79 it (eqV (iterD it d 26)) 1073741824#32 = hotV it (iterD it d 26) := by
  unfold k0_pay79; rfl

theorem k0_pay80_eq (it : IVec S1024x4096 32) (d : FVec F S1024x4096 .f32) :
    k0_pay80 (F := F) it (iterD it d 26) (eqV (iterD it d 26)) 1073741824#32 = iterD it d 27 := by
  unfold k0_pay80; simp only [k0_pay79_eq]; rfl

theorem k0_pay81_eq (it : IVec S1024x4096 32) (d : FVec F S1024x4096 .f32) :
    k0_pay81 (F := F) it (iterD it d 26) (eqV (iterD it d 26)) 1073741824#32 = hotV it (iterD it d 27) := by
  unfold k0_pay81; simp only [k0_pay80_eq]; rfl

theorem k0_pay82_eq (it : IVec S1024x4096 32) (d : FVec F S1024x4096 .f32) :
    k0_pay82 (F := F) it (iterD it d 26) (eqV (iterD it d 26)) 1073741824#32 = iterD it d 28 := by
  unfold k0_pay82; simp only [k0_pay80_eq, k0_pay81_eq]; rfl

theorem k0_pay83_eq (it : IVec S1024x4096 32) (d : FVec F S1024x4096 .f32) :
    k0_pay83 (F := F) it (iterD it d 26) (eqV (iterD it d 26)) 1073741824#32 = hotV it (iterD it d 28) := by
  unfold k0_pay83; simp only [k0_pay82_eq]; rfl

theorem k0_pay84_eq (it : IVec S1024x4096 32) (d : FVec F S1024x4096 .f32) (w : FVec F S1024x4096 .f32) :
    k0_pay84 (F := F) it (iterW it d w 26) (iterD it d 26) (eqV (iterD it d 26)) 1073741824#32 = iterW it d w 29 := by
  unfold k0_pay84; simp only [k0_pay79_eq, k0_pay81_eq, k0_pay83_eq]; rfl

theorem k0_pay85_eq (it : IVec S1024x4096 32) (d : FVec F S1024x4096 .f32) :
    k0_pay85 (F := F) it (iterD it d 26) (eqV (iterD it d 26)) 1073741824#32 = iterD it d 29 := by
  unfold k0_pay85; simp only [k0_pay82_eq, k0_pay83_eq]; rfl

theorem k0_pay86_eq (it : IVec S1024x4096 32) (d : FVec F S1024x4096 .f32) :
    k0_pay86 (F := F) it (iterD it d 26) (eqV (iterD it d 26)) 1073741824#32 = candV it (iterD it d 29) := by
  unfold k0_pay86; simp only [k0_pay85_eq]; rfl

theorem k0_pay87_eq (it : IVec S1024x4096 32) (d : FVec F S1024x4096 .f32) (w : FVec F S1024x4096 .f32) :
    k0_pay87 (F := F) it (iterW it d w 29) (iterD it d 29) (candV it (iterD it d 29)) = iterW it d w 32 := by
  unfold k0_pay87; rfl

end Cert.KernelIdeal.Rounds

end
-- ==== Proof.RowReads.lean ====
/- One round of the neighbour search read on a row: the place it picks is the first place where the row's least entry
   stands, so that after some rounds a row is what is left of it, and `w` is one at the places picked. -/
module

public import proofs.«01_k».proof.Proof.Rounds
public import proofs.«01_k».proof.Proof.Select
public import Idealize.ShloMosaic.PureOps.Ideal.Laws
public import Idealize.ShloMosaic.Lib.ValueIdx
public import Idealize.ShloMosaic.Lib.IdealHost
public import Idealize.ShloMosaic.Lib.Pipeline.Value

@[expose] public section

set_option maxRecDepth 16384

noncomputable section

namespace Cert.KernelIdeal.Rounds

open Idealize.ShloMosaic Idealize.SL.Sem Cert.KernelIdeal Cert.KernelIdeal.Gen Idealize.ShloMosaic.ValueIdx Cert.Select

/-- A place as a word. -/
def word (k : Fin 4096) : BitVec 32 := BitVec.ofNat 32 k.val

theorem word_toInt (k : Fin 4096) : (word k).toInt = (k.val : ℤ) := by
  have h : (word k).toNat = k.val := by
    unfold word
    rw [BitVec.toNat_ofNat]
    exact Nat.mod_eq_of_lt (by have := k.isLt; omega)
  rw [BitVec.toInt_eq_toNat_of_lt (by rw [h]; have := k.isLt; omega), h]

theorem word_inj {a b : Fin 4096} (h : word a = word b) : a = b := by
  have := congrArg BitVec.toInt h
  rw [word_toInt, word_toInt] at this
  exact Fin.ext (by omega)

theorem inf_eq : (Ideal.ofBits .f32 0x7F800000#32 : EReal) = ⊤ := by simp [Ideal.ofBits, Ideal.ieee]

/-- The row `a` of an array. -/
def row (d : FVec Ideal S1024x4096 .f32) (a : Fin 1024) : Fin 4096 → EReal := fun k => d (ix2 a k)

theorem lift_eq (a : Fin 1024) (k : Fin 4096) : reduces_S1024x4096_S1024.lift (ix1 a) k = ix2 a k := by
  funext c; apply Fin.ext
  match c with
  | ⟨0, _⟩ => rfl
  | ⟨1, _⟩ => rfl

/-- The least entry of a row. -/
theorem minC_apply (d : FVec Ideal S1024x4096 .f32) (a : Fin 1024) :
    minC d (ix2 a (0 : Fin 1)) = row d a (firstMin (row d a)) := by
  unfold minC
  rw [shapeCast_apply _ _ _ (ix1 a) (by rfl)]
  refine (multiReduction_minimumf_eq_fold _ _ _ _ _ _).trans ?_
  rw [reduces_S1024x4096_S1024.fold_filter_drop_single]
  have e : (d ∘ reduces_S1024x4096_S1024.lift (ix1 a)) = row d a := funext fun k => congrArg d (lift_eq a k)
  rw [e]
  refine le_antisymm ?_ ?_
  · exact (Finset.fold_min_le _).mpr (Or.inr ⟨_, Finset.mem_univ _, le_refl _⟩)
  · exact (Finset.le_fold_min _).mpr ⟨by rw [show FloatOps.ofBits (F := Ideal) .f32 0x7F800000#32 = (⊤ : EReal) from inf_eq]; exact le_top, fun k _ => (firstMin_spec (row d a) k).1⟩

theorem minV_apply (d : FVec Ideal S1024x4096 .f32) (a : Fin 1024) (b : Fin 4096) :
    minV d (ix2 a b) = row d a (firstMin (row d a)) := by
  unfold minV
  rw [broadcastTo_apply _ _ _ (ix2 a (0 : Fin 1)) (by intro c; match c with | ⟨0, _⟩ => rfl | ⟨1, _⟩ => rfl), minC_apply]

theorem candV_apply (it : IVec S1024x4096 32) (hit : ∀ a b, it (ix2 a b) = word b) (d : FVec Ideal S1024x4096 .f32) (a : Fin 1024)
    (b : Fin 4096) :
    (candV it d (ix2 a b)).toInt = if row d a b = row d a (firstMin (row d a)) then (b.val : ℤ) else 1073741824 := by
  unfold candV
  rw [select_apply, hit]
  unfold eqV
  rw [cmpf_apply, minV_apply]
  show BitVec.toInt (Scalar.select (α := BitVec 32) (Ideal.cmp .oeq (row d a b) (row d a (firstMin (row d a)))) (word b) 1073741824#32) = _
  unfold Ideal.cmp
  by_cases h : row d a b = row d a (firstMin (row d a))
  · rw [if_pos h]
    simp only [h, decide_true]
    exact word_toInt b
  · rw [if_neg h]
    simp only [h, decide_false]
    rfl

theorem toInt_minsi (x y : BitVec 32) : (IntOp.minsi x y).toInt = min x.toInt y.toInt := by
  unfold IntOp.minsi
  rw [BitVec.slt]
  by_cases h : x.toInt < y.toInt
  · simp [h, h.le]
  · simp [h, not_lt.mp h]

theorem pickRaw_apply (it : IVec S1024x4096 32) (hit : ∀ a b, it (ix2 a b) = word b) (d : FVec Ideal S1024x4096 .f32)
    (a : Fin 1024) : pickRaw it d (ix1 a) = word (firstMin (row d a)) := by
  unfold pickRaw
  refine (multiReductionI_eq_fold _ _ _ _ _ _).trans ?_
  rw [reduces_S1024x4096_S1024.fold_filter_drop_single]
  apply BitVec.eq_of_toInt_eq
  have e0 : (candV it d ∘ reduces_S1024x4096_S1024.lift (ix1 a)) = fun k : Fin 4096 => candV it d (ix2 a k) :=
    funext fun k => congrArg (candV it d) (lift_eq a k)
  rw [e0]
  change BitVec.toInt ((Finset.univ : Finset (Fin 4096)).fold IntOp.minsi 2147483647#32 (fun k => candV it d (ix2 a k))) = _
  rw [← Finset.fold_hom (op' := min) (m := BitVec.toInt) toInt_minsi, word_toInt]
  have e : ∀ k : Fin 4096, (candV it d (ix2 a k)).toInt
      = if row d a k = row d a (firstMin (row d a)) then (k.val : ℤ) else 1073741824 := candV_apply it hit d a
  simp only [e]
  have hlt := (firstMin (row d a)).isLt
  refine le_antisymm ?_ ?_
  · exact (Finset.fold_min_le _).mpr (Or.inr ⟨firstMin (row d a), Finset.mem_univ _, by rw [if_pos rfl]⟩)
  · refine (Finset.le_fold_min _).mpr ⟨by show _ ≤ (2147483647 : ℤ); omega, fun k _ => ?_⟩
    split
    · rename_i h
      by_contra hk
      exact absurd ((firstMin_spec (row d a) k).2 (Fin.lt_def.mpr (by omega))) (by rw [h]; exact lt_irrefl _)
    · omega

theorem pickV_apply (it : IVec S1024x4096 32) (hit : ∀ a b, it (ix2 a b) = word b) (d : FVec Ideal S1024x4096 .f32)
    (a : Fin 1024) : pickV it d (ix2 a (0 : Fin 1)) = word (firstMin (row d a)) := by
  unfold pickV
  rw [shapeCast_apply _ _ _ (ix1 a) (by rfl), pickRaw_apply it hit]

theorem hotV_apply (it : IVec S1024x4096 32) (hit : ∀ a b, it (ix2 a b) = word b) (d : FVec Ideal S1024x4096 .f32)
    (a : Fin 1024) (b : Fin 4096) : hotV it d (ix2 a b) = if b = firstMin (row d a) then 1#1 else 0#1 := by
  unfold hotV
  show IntOp.cmpi .eq (it (ix2 a b)) _ = _
  rw [hit, broadcastTo_apply _ _ _ (ix2 a (0 : Fin 1)) (by intro c; match c with | ⟨0, _⟩ => rfl | ⟨1, _⟩ => rfl),
    pickV_apply it hit]
  by_cases h : b = firstMin (row d a)
  · rw [if_pos h, h]; simp [IntOp.cmpi]
  · rw [if_neg h]
    have : word b ≠ word (firstMin (row d a)) := fun e => h (word_inj e)
    show BitVec.ofBool (word b == word (firstMin (row d a))) = 0#1
    rw [beq_eq_false_iff_ne.mpr this]; rfl

theorem nextD_apply (it : IVec S1024x4096 32) (hit : ∀ a b, it (ix2 a b) = word b) (d : FVec Ideal S1024x4096 .f32)
    (a : Fin 1024) (b : Fin 4096) : nextD it d (ix2 a b) = if b = firstMin (row d a) then ⊤ else row d a b := by
  unfold nextD
  rw [select_apply, hotV_apply it hit]
  split
  · exact inf_eq
  · rfl

theorem one_eq : (Ideal.ofBits .f32 0x3F800000#32 : EReal) = 1 := Ideal.ofBits_one_f32

theorem nextW_apply (it : IVec S1024x4096 32) (hit : ∀ a b, it (ix2 a b) = word b) (d w : FVec Ideal S1024x4096 .f32)
    (a : Fin 1024) (b : Fin 4096) : nextW it d w (ix2 a b) = if b = firstMin (row d a) then 1 else w (ix2 a b) := by
  unfold nextW
  rw [select_apply, hotV_apply it hit]
  split
  · exact one_eq
  · rfl

theorem row_apply (d : FVec Ideal S1024x4096 .f32) (a : Fin 1024) (b : Fin 4096) : row d a b = d (ix2 a b) := rfl

theorem iterD_succ (it : IVec S1024x4096 32) (d : FVec Ideal S1024x4096 .f32) (r : ℕ) :
    iterD it d (r + 1) = nextD it (iterD it d r) := rfl

/-- A row after some rounds is what is left of it. -/
theorem row_iterD (it : IVec S1024x4096 32) (hit : ∀ a b, it (ix2 a b) = word b) (d : FVec Ideal S1024x4096 .f32)
    (a : Fin 1024) (r : ℕ) : row (iterD it d r) a = left (row d a) r := by
  induction r with
  | zero => rfl
  | succ r ih =>
    funext b
    have h := nextD_apply it hit (iterD it d r) a b
    rw [ih] at h
    rw [left_succ, row_apply, iterD_succ, h, pick]

/-- The place picked in a round. -/
theorem pick_iterD (it : IVec S1024x4096 32) (hit : ∀ a b, it (ix2 a b) = word b) (d : FVec Ideal S1024x4096 .f32)
    (a : Fin 1024) (r : ℕ) : pickV it (iterD it d r) (ix2 a (0 : Fin 1)) = word (pick (row d a) r) := by
  rw [pickV_apply it hit, row_iterD it hit]; rfl

open Classical in
/-- `w` after some rounds, from zero. -/
theorem iterW_apply (it : IVec S1024x4096 32) (hit : ∀ a b, it (ix2 a b) = word b) (d w : FVec Ideal S1024x4096 .f32)
    (hw : ∀ a b, w (ix2 a b) = (0 : EReal)) (a : Fin 1024) (b : Fin 4096) (r : ℕ) :
    iterW it d w r (ix2 a b) = if ∃ s < r, pick (row d a) s = b then (1 : EReal) else 0 := by
  induction r with
  | zero =>
    rw [if_neg (by rintro ⟨s, hs, _⟩; exact absurd hs (Nat.not_lt_zero s))]
    exact hw a b
  | succ r ih =>
    show nextW it (iterD it d r) (iterW it d w r) (ix2 a b) = _
    rw [nextW_apply it hit, row_iterD it hit, ih]
    by_cases h : b = firstMin (left (row d a) r)
    · rw [if_pos h, if_pos ⟨r, Nat.lt_succ_self r, h.symm⟩]
    · rw [if_neg h]
      refine if_congr ⟨fun ⟨s, hs, e⟩ => ⟨s, Nat.lt_succ_of_lt hs, e⟩, fun ⟨s, hs, e⟩ => ?_⟩ rfl rfl
      rcases Nat.lt_succ_iff_lt_or_eq.mp hs with h' | h'
      · exact ⟨s, h', e⟩
      · subst h'; exact absurd e.symm h

end Cert.KernelIdeal.Rounds

end
-- ==== Proof.Tiles.lean ====
/- The payloads of the first call read at an index: the distances of a tile, the places picked, and the six covariances
   from the nine sums. -/
module

public import proofs.«01_k».proof.Proof.RowReads
public import Idealize.ShloMosaic.Lib.MatmulPlain
public import Idealize.ShloMosaic.Lib.Pipeline.Value

@[expose] public section

set_option maxRecDepth 16384

noncomputable section

namespace Cert.KernelIdeal.Rounds

open Idealize.ShloMosaic Idealize.SL.Sem Cert.KernelIdeal Cert.KernelIdeal.Gen Idealize.ShloMosaic.ValueIdx Cert.Select

theorem zero_eq : (Ideal.ofBits .f32 0x00000000#32 : EReal) = 0 := by simp [Ideal.ofBits, Ideal.ieee]

/-! ## The distances -/

theorem lift3 (a : Fin 1024) (k : Fin 3) : reduces_S1024x3_S1024.lift (ix1 a) k = ix2 a k := by
  funext c; apply Fin.ext
  match c with
  | ⟨0, _⟩ => rfl
  | ⟨1, _⟩ => rfl

theorem lift0 (m : Fin 4096) (k : Fin 3) : reduces_S3x4096_S4096.lift (ix1 m) k = ix2 k m := by
  funext c; apply Fin.ext
  match c with
  | ⟨0, _⟩ => rfl
  | ⟨1, _⟩ => rfl

theorem tile_cast (v0 : Vec Ideal S1x1024x3 .f32) (a : Fin 1024) (k : Fin 3) :
    shapeCast S1024x3 v0 shapeCasts_S1x1024x3_S1024x3 (ix2 a k) = v0 (ix3 (0 : Fin 1) a k) :=
  shapeCast_apply _ _ _ _ (by
    rw [Shape.rowMajor_val_three, Shape.rowMajor_val_two]
    show (0 * 1024 + a.val) * 3 + k.val = a.val * 3 + k.val
    omega)

theorem all_cast (v4 : Vec Ideal S1x3x4096 .f32) (k : Fin 3) (m : Fin 4096) :
    shapeCast S3x4096 v4 shapeCasts_S1x3x4096_S3x4096 (ix2 k m) = v4 (ix3 (0 : Fin 1) k m) :=
  shapeCast_apply _ _ _ _ (by
    rw [Shape.rowMajor_val_three, Shape.rowMajor_val_two]
    show (0 * 3 + k.val) * 4096 + m.val = k.val * 4096 + m.val
    omega)

theorem pts_cast (v2 : Vec Ideal S1x4096x3 .f32) (m : Fin 4096) (k : Fin 3) :
    k0_pay2 v2 (ix2 m k) = v2 (ix3 (0 : Fin 1) m k) :=
  shapeCast_apply _ _ _ _ (by
    rw [Shape.rowMajor_val_three, Shape.rowMajor_val_two]
    show (0 * 4096 + m.val) * 3 + k.val = m.val * 3 + k.val
    omega)

theorem k0_pay3_apply (v0 : Vec Ideal S1x1024x3 .f32) (v4 : Vec Ideal S1x3x4096 .f32) (a : Fin 1024) (m : Fin 4096) :
    k0_pay3 v0 v4 (ix2 a m)
      = max (((∑ k : Fin 3, (v0 (ix3 (0 : Fin 1) a k) * v0 (ix3 (0 : Fin 1) a k) : EReal))
            + ∑ k : Fin 3, (v4 (ix3 (0 : Fin 1) k m) * v4 (ix3 (0 : Fin 1) k m) : EReal))
          - Ideal.ofBits .f32 0x40000000#32 * ∑ k : Fin 3, (v0 (ix3 (0 : Fin 1) a k) * v4 (ix3 (0 : Fin 1) k m) : EReal)) 0 := by
  unfold k0_pay3
  rw [maximumf_apply, subf_apply, addf_apply, mulf_apply,
    broadcastTo_apply _ _ _ (ix2 a (0 : Fin 1)) (by intro c; match c with | ⟨0, _⟩ => rfl | ⟨1, _⟩ => rfl),
    broadcastTo_apply _ _ _ (ix2 (0 : Fin 1) m) (by intro c; match c with | ⟨0, _⟩ => rfl | ⟨1, _⟩ => rfl),
    shapeCast_apply _ _ _ (ix1 a) (by rfl), shapeCast_apply _ _ _ (ix1 m) (by
      rw [Shape.rowMajor_val_one, Shape.rowMajor_val_two]
      show m.val = 0 * 4096 + m.val
      omega)]
  refine congrArg₂ max (congrArg₂ (· - ·) (congrArg₂ (· + ·) ?_ ?_) (congrArg₂ (· * ·) rfl ?_)) zero_eq
  · refine (Ideal.multiReduction_add_single _ _ _ _ _ _).trans ?_
    exact Finset.sum_congr rfl fun (k : Fin 3) _ => (congrArg _ (lift3 a k)).trans
      (congrArg₂ (· * ·) (tile_cast v0 a k) (tile_cast v0 a k))
  · refine (Ideal.multiReduction_add_single _ _ _ _ _ _).trans ?_
    exact Finset.sum_congr rfl fun (k : Fin 3) _ => (congrArg _ (lift0 m k)).trans
      (congrArg₂ (· * ·) (all_cast v4 k m) (all_cast v4 k m))
  · refine (Ideal.matmul_plain_apply _ _ _ _ _ _).trans ?_
    refine (congrArg₂ (· + ·) zero_eq rfl).trans ?_
    rw [zero_add]
    exact Finset.sum_congr rfl fun k _ => congrArg₂ (· * ·) (tile_cast v0 a k) (all_cast v4 k m)

/-! ## The places picked -/

theorem k0_pay88_apply (f : Fin 8 → IVec S1024x1 32) (a : Fin 1024) (r : Fin 8) :
    k0_pay88 (f 0) (f 1) (f 2) (f 3) (f 4) (f 5) (f 6) (f 7) (ix3 (0 : Fin 1) a r) = f r (ix2 a (0 : Fin 1)) := by
  unfold k0_pay88
  rw [shapeCast_apply _ _ _ (ix2 a r) (by
    rw [Shape.rowMajor_val_three, Shape.rowMajor_val_two]
    show a.val * 8 + r.val = (0 * 1024 + a.val) * 8 + r.val
    omega)]
  exact concatenate_ofFn_unit_apply (t := S1024x8) (s₁ := S1024x1) (1 : Fin 2) f _ rfl rfl (ix2 a r) r rfl (ix2 a (0 : Fin 1))
    (fun b hb => by match b with | ⟨0, _⟩ => rfl | ⟨1, _⟩ => exact absurd rfl hb)

/-! ## The covariances -/

/-- The nine columns: the coordinates and their products. -/
def cols (v3 : FVec Ideal S4096x3 .f32) : Fin 9 → FVec Ideal S4096x1 .f32 :=
  ![k0_pay89 v3, k0_pay90 v3, k0_pay91 v3, k0_pay92 v3, k0_pay93 v3, k0_pay94 v3, k0_pay95 v3,
    mulf (k0_pay90 v3) (k0_pay91 v3), mulf (k0_pay91 v3) (k0_pay91 v3)]

/-- The nine means. -/
def mom (w : FVec Ideal S1024x4096 .f32) (v3 : FVec Ideal S4096x3 .f32) (a : Fin 1024) (c : Fin 9) : EReal :=
  Ideal.div (∑ k : Fin 4096, (w (ix2 a k) * cols v3 c (ix2 k (0 : Fin 1)) : EReal)) (Ideal.ofBits .f32 0x42000000#32)

/-- The same means as an array. -/
def momV (w : FVec Ideal S1024x4096 .f32) (v3 : FVec Ideal S4096x3 .f32) : FVec Ideal S1024x9 .f32 :=
  divf (matmul (φ₂ := .f32) dot_S1024x4096_S4096x9_S1024x9_1_0_0_1_n_n none w
    (concatenate S4096x9 1 (List.ofFn fun n : Fin 9 => (⟨S4096x1, cols v3 n⟩ : (s : Shape) × (s.Idx → EReal)))
      concatenates_S4096x1_S4096x1_S4096x1_S4096x1_S4096x1_S4096x1_S4096x1_S4096x1_S4096x1_S4096x9_d1)
    (constant S1024x9 .f32 0x00000000#32)) (broadcast S1024x9 (Scalar.ofBits .f32 0x42000000#32))

theorem momV_apply (w : FVec Ideal S1024x4096 .f32) (v3 : FVec Ideal S4096x3 .f32) (a : Fin 1024) (c : Fin 9) :
    momV w v3 (ix2 a c) = mom w v3 a c := by
  unfold momV
  rw [divf_apply]
  refine congrArg₂ Ideal.div ?_ rfl
  refine (Ideal.matmul_plain_apply _ _ _ _ _ _).trans ?_
  refine (congrArg₂ (· + ·) zero_eq rfl).trans ?_
  rw [zero_add]
  refine Finset.sum_congr rfl fun k _ => congrArg₂ (· * ·) rfl ?_
  exact concatenate_ofFn_unit_apply (t := S4096x9) (s₁ := S4096x1) (1 : Fin 2) (cols v3) _ rfl rfl (ix2 k c) c rfl (ix2 k (0 : Fin 1))
    (fun b hb => by match b with | ⟨0, _⟩ => rfl | ⟨1, _⟩ => exact absurd rfl hb)

theorem col_apply (x : FVec Ideal S1024x9 .f32) (c : Fin 9) (h : S1024x9.Slices ![0, c.val] S1024x1) (a : Fin 1024) :
    extractStridedSlice S1024x1 ![0, c.val] x h (ix2 a (0 : Fin 1)) = x (ix2 a c) :=
  extractStridedSlice_apply _ _ _ _ _ (fun b => by
    match b with
    | ⟨0, _⟩ => exact (Nat.zero_add _).symm
    | ⟨1, _⟩ => rfl)

/-- The column of a product of two coordinates. -/
def prd6 : Fin 6 → Fin 9 := ![3, 4, 5, 6, 7, 8]

/-- The column of the first factor. -/
def one6 : Fin 6 → Fin 9 := ![0, 0, 0, 1, 1, 2]

/-- The column of the second factor. -/
def two6 : Fin 6 → Fin 9 := ![0, 1, 2, 1, 2, 2]

/-- A covariance as a column. -/
def sixV (x : FVec Ideal S1024x9 .f32) : Fin 6 → FVec Ideal S1024x1 .f32 :=
  ![subf (extractStridedSlice S1024x1 ![0, 3] x slices_S1024x9_o0_3_S1024x1)
      (mulf (extractStridedSlice S1024x1 ![0, 0] x slices_S1024x9_o0_0_S1024x1) (extractStridedSlice S1024x1 ![0, 0] x slices_S1024x9_o0_0_S1024x1)),
    subf (extractStridedSlice S1024x1 ![0, 4] x slices_S1024x9_o0_4_S1024x1)
      (mulf (extractStridedSlice S1024x1 ![0, 0] x slices_S1024x9_o0_0_S1024x1) (extractStridedSlice S1024x1 ![0, 1] x slices_S1024x9_o0_1_S1024x1)),
    subf (extractStridedSlice S1024x1 ![0, 5] x slices_S1024x9_o0_5_S1024x1)
      (mulf (extractStridedSlice S1024x1 ![0, 0] x slices_S1024x9_o0_0_S1024x1) (extractStridedSlice S1024x1 ![0, 2] x slices_S1024x9_o0_2_S1024x1)),
    subf (extractStridedSlice S1024x1 ![0, 6] x slices_S1024x9_o0_6_S1024x1)
      (mulf (extractStridedSlice S1024x1 ![0, 1] x slices_S1024x9_o0_1_S1024x1) (extractStridedSlice S1024x1 ![0, 1] x slices_S1024x9_o0_1_S1024x1)),
    subf (extractStridedSlice S1024x1 ![0, 7] x slices_S1024x9_o0_7_S1024x1)
      (mulf (extractStridedSlice S1024x1 ![0, 1] x slices_S1024x9_o0_1_S1024x1) (extractStridedSlice S1024x1 ![0, 2] x slices_S1024x9_o0_2_S1024x1)),
    subf (extractStridedSlice S1024x1 ![0, 8] x slices_S1024x9_o0_8_S1024x1)
      (mulf (extractStridedSlice S1024x1 ![0, 2] x slices_S1024x9_o0_2_S1024x1) (extractStridedSlice S1024x1 ![0, 2] x slices_S1024x9_o0_2_S1024x1))]

theorem sixV_apply (x : FVec Ideal S1024x9 .f32) (q : Fin 6) (a : Fin 1024) :
    sixV x q (ix2 a (0 : Fin 1)) = (x (ix2 a (prd6 q)) - x (ix2 a (one6 q)) * x (ix2 a (two6 q)) : EReal) := by
  match q with
  | ⟨0, _⟩ =>
    exact congrArg₂ (· - ·) (col_apply x 3 _ a) (congrArg₂ (· * ·) (col_apply x 0 _ a) (col_apply x 0 _ a))
  | ⟨1, _⟩ =>
    exact congrArg₂ (· - ·) (col_apply x 4 _ a) (congrArg₂ (· * ·) (col_apply x 0 _ a) (col_apply x 1 _ a))
  | ⟨2, _⟩ =>
    exact congrArg₂ (· - ·) (col_apply x 5 _ a) (congrArg₂ (· * ·) (col_apply x 0 _ a) (col_apply x 2 _ a))
  | ⟨3, _⟩ =>
    exact congrArg₂ (· - ·) (col_apply x 6 _ a) (congrArg₂ (· * ·) (col_apply x 1 _ a) (col_apply x 1 _ a))
  | ⟨4, _⟩ =>
    exact congrArg₂ (· - ·) (col_apply x 7 _ a) (congrArg₂ (· * ·) (col_apply x 1 _ a) (col_apply x 2 _ a))
  | ⟨5, _⟩ =>
    exact congrArg₂ (· - ·) (col_apply x 8 _ a) (congrArg₂ (· * ·) (col_apply x 2 _ a) (col_apply x 2 _ a))

theorem k0_pay1_eq (w : FVec Ideal S1024x4096 .f32) (v3 : FVec Ideal S4096x3 .f32) :
    k0_pay1 w (k0_pay89 v3) (k0_pay90 v3) (k0_pay91 v3) (k0_pay92 v3) (k0_pay93 v3) (k0_pay94 v3) (k0_pay95 v3)
      = shapeCast S1x1024x6 (concatenate S1024x6 1
          (List.ofFn fun n : Fin 6 => (⟨S1024x1, sixV (momV w v3) n⟩ : (s : Shape) × (s.Idx → EReal)))
          concatenates_S1024x1_S1024x1_S1024x1_S1024x1_S1024x1_S1024x1_S1024x6_d1) shapeCasts_S1024x6_S1x1024x6 := by
  unfold k0_pay1
  rfl

theorem k0_pay1_apply (w : FVec Ideal S1024x4096 .f32) (v3 : FVec Ideal S4096x3 .f32) (a : Fin 1024) (q : Fin 6) :
    k0_pay1 w (k0_pay89 v3) (k0_pay90 v3) (k0_pay91 v3) (k0_pay92 v3) (k0_pay93 v3) (k0_pay94 v3) (k0_pay95 v3)
        (ix3 (0 : Fin 1) a q)
      = (mom w v3 a (prd6 q) - mom w v3 a (one6 q) * mom w v3 a (two6 q) : EReal) := by
  rw [k0_pay1_eq, shapeCast_apply _ _ _ (ix2 a q) (by
    rw [Shape.rowMajor_val_three, Shape.rowMajor_val_two]
    show a.val * 6 + q.val = (0 * 1024 + a.val) * 6 + q.val
    omega)]
  refine (concatenate_ofFn_unit_apply (t := S1024x6) (s₁ := S1024x1) (1 : Fin 2) (sixV (momV w v3)) _ rfl rfl (ix2 a q) q rfl
    (ix2 a (0 : Fin 1)) (fun b hb => by match b with | ⟨0, _⟩ => rfl | ⟨1, _⟩ => exact absurd rfl hb)).trans ?_
  rw [sixV_apply, momV_apply, momV_apply, momV_apply]

end Cert.KernelIdeal.Rounds

end
-- ==== Proof.Blocks.lean ====
/- What the body of the first call leaves in its two output blocks, in terms of the rounds of the neighbour search. -/
module

public import proofs.«01_k».proof.Proof.Rounds
public import proofs.«01_k».proof.Proof.Gen.KernelIdeal.Frame
public import Idealize.ShloMosaic.Lib.Pipeline.Value

@[expose] public section

set_option maxRecDepth 16384

noncomputable section

namespace Cert.KernelIdeal.Rounds

open Idealize.ShloMosaic Idealize.SL.Sem Cert.KernelIdeal Cert.KernelIdeal.Gen

variable {F : FTy → Type} [FloatOps F]

/-- The places of a row. -/
abbrev itV : IVec S1024x4096 32 := iota .tc S1024x4096 32 [1] iota_S1024x4096_d1_w32

/-- Zero everywhere: `w` before the first round. -/
def w0V : FVec F S1024x4096 .f32 := broadcast S1024x4096 (Scalar.ofBits .f32 0x00000000#32)

theorem k0_pay4_eq (v0 : Vec F S1x1024x3 .f32) (v4 : Vec F S1x3x4096 .f32) :
    k0_pay4 v0 v4 = pickV itV (iterD itV (k0_pay3 v0 v4) 0) := by
  unfold k0_pay4; rfl

theorem k0_pay5_eq (v0 : Vec F S1x1024x3 .f32) (v4 : Vec F S1x3x4096 .f32) :
    k0_pay5 v0 v4 = hotV itV (iterD itV (k0_pay3 v0 v4) 0) := by
  unfold k0_pay5; rw [k0_pay4_eq]; rfl

theorem k0_pay6_eq (v0 : Vec F S1x1024x3 .f32) (v4 : Vec F S1x3x4096 .f32) :
    k0_pay6 v0 v4 = iterW itV (k0_pay3 v0 v4) w0V 1 := by
  unfold k0_pay6; rw [k0_pay5_eq]; rfl

theorem k0_pay7_eq (v0 : Vec F S1x1024x3 .f32) (v4 : Vec F S1x3x4096 .f32) :
    k0_pay7 v0 v4 = iterD itV (k0_pay3 v0 v4) 1 := by
  unfold k0_pay7; rw [k0_pay5_eq]; rfl

theorem out0_4_eq (x0 : Vec F S1x1024x3 .f32) (x1 : Vec F S1x4096x3 .f32) (x2 : Vec F S1x3x4096 .f32) :
    out0_4 x0 x1 x2 = View.canon [⟨r0_3, k0_pay88
      (pickV itV (iterD itV (k0_pay3 (View.ld x0 r0_0) (View.ld x2 r0_2)) 0))
      (pickV itV (iterD itV (k0_pay3 (View.ld x0 r0_0) (View.ld x2 r0_2)) 1))
      (pickV itV (iterD itV (k0_pay3 (View.ld x0 r0_0) (View.ld x2 r0_2)) 2))
      (pickV itV (iterD itV (k0_pay3 (View.ld x0 r0_0) (View.ld x2 r0_2)) 3))
      (pickV itV (iterD itV (k0_pay3 (View.ld x0 r0_0) (View.ld x2 r0_2)) 4))
      (pickV itV (iterD itV (k0_pay3 (View.ld x0 r0_0) (View.ld x2 r0_2)) 5))
      (pickV itV (iterD itV (k0_pay3 (View.ld x0 r0_0) (View.ld x2 r0_2)) 6))
      (pickV itV (iterD itV (k0_pay3 (View.ld x0 r0_0) (View.ld x2 r0_2)) 7))⟩] := by
  unfold out0_4
  simp only [k0_pay96,
    k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay4_eq, k0_pay6_eq,
    k0_pay7_eq, k0_pay8_eq, k0_pay9_eq, k0_pay10_eq, k0_pay11_eq, k0_pay12_eq, k0_pay13_eq, k0_pay14_eq, k0_pay15_eq,
    k0_pay16_eq, k0_pay17_eq, k0_pay18_eq, k0_pay19_eq, k0_pay20_eq, k0_pay21_eq, k0_pay22_eq, k0_pay23_eq,
    k0_pay24_eq, k0_pay25_eq, k0_pay26_eq, k0_pay27_eq, k0_pay28_eq, k0_pay29_eq, k0_pay30_eq, k0_pay31_eq,
    k0_pay32_eq, k0_pay33_eq, k0_pay34_eq, k0_pay35_eq, k0_pay36_eq, k0_pay37_eq, k0_pay38_eq, k0_pay39_eq,
    k0_pay40_eq, k0_pay41_eq, k0_pay42_eq, k0_pay43_eq, k0_pay44_eq, k0_pay45_eq, k0_pay46_eq, k0_pay47_eq,
    k0_pay48_eq, k0_pay49_eq, k0_pay50_eq, k0_pay51_eq, k0_pay52_eq, k0_pay53_eq, k0_pay54_eq, k0_pay55_eq,
    k0_pay56_eq, k0_pay57_eq, k0_pay58_eq, k0_pay59_eq, k0_pay60_eq, k0_pay61_eq, k0_pay62_eq, k0_pay63_eq,
    k0_pay64_eq, k0_pay65_eq, k0_pay66_eq, k0_pay67_eq, k0_pay68_eq, k0_pay69_eq, k0_pay70_eq, k0_pay71_eq,
    k0_pay72_eq, k0_pay73_eq, k0_pay74_eq, k0_pay75_eq, k0_pay76_eq, k0_pay77_eq, k0_pay78_eq, k0_pay79_eq,
    k0_pay80_eq, k0_pay81_eq, k0_pay82_eq, k0_pay83_eq, k0_pay84_eq, k0_pay85_eq, k0_pay86_eq, k0_pay87_eq]

theorem out0_3_eq (x0 : Vec F S1x1024x3 .f32) (x1 : Vec F S1x4096x3 .f32) (x2 : Vec F S1x3x4096 .f32) :
    out0_3 x0 x1 x2 = View.canon [⟨r0_4, k0_pay1
      (iterW itV (k0_pay3 (View.ld x0 r0_0) (View.ld x2 r0_2)) w0V 32)
      (k0_pay89 (k0_pay2 (View.ld x1 r0_1))) (k0_pay90 (k0_pay2 (View.ld x1 r0_1)))
      (k0_pay91 (k0_pay2 (View.ld x1 r0_1))) (k0_pay92 (k0_pay2 (View.ld x1 r0_1)))
      (k0_pay93 (k0_pay2 (View.ld x1 r0_1))) (k0_pay94 (k0_pay2 (View.ld x1 r0_1)))
      (k0_pay95 (k0_pay2 (View.ld x1 r0_1)))⟩] := by
  unfold out0_3
  simp only [k0_pay96,
    k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay4_eq, k0_pay6_eq,
    k0_pay7_eq, k0_pay8_eq, k0_pay9_eq, k0_pay10_eq, k0_pay11_eq, k0_pay12_eq, k0_pay13_eq, k0_pay14_eq, k0_pay15_eq,
    k0_pay16_eq, k0_pay17_eq, k0_pay18_eq, k0_pay19_eq, k0_pay20_eq, k0_pay21_eq, k0_pay22_eq, k0_pay23_eq,
    k0_pay24_eq, k0_pay25_eq, k0_pay26_eq, k0_pay27_eq, k0_pay28_eq, k0_pay29_eq, k0_pay30_eq, k0_pay31_eq,
    k0_pay32_eq, k0_pay33_eq, k0_pay34_eq, k0_pay35_eq, k0_pay36_eq, k0_pay37_eq, k0_pay38_eq, k0_pay39_eq,
    k0_pay40_eq, k0_pay41_eq, k0_pay42_eq, k0_pay43_eq, k0_pay44_eq, k0_pay45_eq, k0_pay46_eq, k0_pay47_eq,
    k0_pay48_eq, k0_pay49_eq, k0_pay50_eq, k0_pay51_eq, k0_pay52_eq, k0_pay53_eq, k0_pay54_eq, k0_pay55_eq,
    k0_pay56_eq, k0_pay57_eq, k0_pay58_eq, k0_pay59_eq, k0_pay60_eq, k0_pay61_eq, k0_pay62_eq, k0_pay63_eq,
    k0_pay64_eq, k0_pay65_eq, k0_pay66_eq, k0_pay67_eq, k0_pay68_eq, k0_pay69_eq, k0_pay70_eq, k0_pay71_eq,
    k0_pay72_eq, k0_pay73_eq, k0_pay74_eq, k0_pay75_eq, k0_pay76_eq, k0_pay77_eq, k0_pay78_eq, k0_pay79_eq,
    k0_pay80_eq, k0_pay81_eq, k0_pay82_eq, k0_pay83_eq, k0_pay84_eq, k0_pay85_eq, k0_pay86_eq, k0_pay87_eq]

end Cert.KernelIdeal.Rounds

end
-- ==== Proof.Region0.lean ====
/- What the first call leaves in its two result arrays: the covariances of the neighbourhoods, and the first eight
   neighbours. -/
module

public import proofs.«01_k».proof.Proof.Spec
public import proofs.«01_k».proof.Proof.Tiles
public import proofs.«01_k».proof.Proof.Blocks
public import Idealize.ShloMosaic.Lib.Pipeline.ValueKit.Geometry

@[expose] public section

set_option maxRecDepth 16384

noncomputable section

namespace Cert.KernelIdeal.Rounds

open Idealize.ShloMosaic Idealize.ShloMosaic.TcCoe Idealize.SL.Sem Cert.KernelIdeal Cert.KernelIdeal.Gen
open Idealize.ShloMosaic.ValueIdx Cert.Select Cert.Spec
open Idealize.ShloMosaic.Pipeline (Dat)

theorem hz3 : (![0, 0, 0] : Fin 3 → Nat) = fun _ => 0 := funext fun a => by fin_cases a <;> rfl

theorem it_apply (a : Fin 1024) (b : Fin 4096) : itV (ix2 a b) = word b := by
  unfold itV
  rw [iota_single_apply]
  rfl

/-- The columns at a point. -/
def colS (x : Fin 3 → EReal) : Fin 9 → EReal :=
  ![x 0, x 1, x 2, x 0 * x 0, x 0 * x 1, x 0 * x 2, x 1 * x 1, x 1 * x 2, x 2 * x 2]

theorem crd_apply (v3 : FVec Ideal S4096x3 .f32) (c : Fin 3) (h : S4096x3.Slices ![0, c.val] S4096x1) (k : Fin 4096) :
    extractStridedSlice S4096x1 ![0, c.val] v3 h (ix2 k (0 : Fin 1)) = v3 (ix2 k c) :=
  extractStridedSlice_apply _ _ _ _ _ (fun b => by
    match b with
    | ⟨0, _⟩ => exact (Nat.zero_add _).symm
    | ⟨1, _⟩ => rfl)

theorem crd0 (v3 : FVec Ideal S4096x3 .f32) (k : Fin 4096) : k0_pay89 v3 (ix2 k (0 : Fin 1)) = v3 (ix2 k 0) := by
  unfold k0_pay89; exact crd_apply v3 0 _ k

theorem crd1 (v3 : FVec Ideal S4096x3 .f32) (k : Fin 4096) : k0_pay90 v3 (ix2 k (0 : Fin 1)) = v3 (ix2 k 1) := by
  unfold k0_pay90; exact crd_apply v3 1 _ k

theorem crd2 (v3 : FVec Ideal S4096x3 .f32) (k : Fin 4096) : k0_pay91 v3 (ix2 k (0 : Fin 1)) = v3 (ix2 k 2) := by
  unfold k0_pay91; exact crd_apply v3 2 _ k

theorem cols_apply (v3 : FVec Ideal S4096x3 .f32) (c : Fin 9) (k : Fin 4096) :
    cols v3 c (ix2 k (0 : Fin 1)) = colS (fun i => v3 (ix2 k i)) c := by
  match c with
  | ⟨0, _⟩ => exact crd0 v3 k
  | ⟨1, _⟩ => exact crd1 v3 k
  | ⟨2, _⟩ => exact crd2 v3 k
  | ⟨3, _⟩ => exact congrArg₂ (· * ·) (crd0 v3 k) (crd0 v3 k)
  | ⟨4, _⟩ => exact congrArg₂ (· * ·) (crd0 v3 k) (crd1 v3 k)
  | ⟨5, _⟩ => exact congrArg₂ (· * ·) (crd0 v3 k) (crd2 v3 k)
  | ⟨6, _⟩ => exact congrArg₂ (· * ·) (crd1 v3 k) (crd1 v3 k)
  | ⟨7, _⟩ => exact congrArg₂ (· * ·) (crd1 v3 k) (crd2 v3 k)
  | ⟨8, _⟩ => exact congrArg₂ (· * ·) (crd2 v3 k) (crd2 v3 k)

section Block

variable (X : Cloud) (b : Fin 4) (x0 : Vec Ideal S1x1024x3 .f32) (x1 : Vec Ideal S1x4096x3 .f32) (x2 : Vec Ideal S1x3x4096 .f32)
  (n : Fin 1024 → Fin 4096)
  (h0 : ∀ a k, x0 (ix3 (0 : Fin 1) a k) = X (ix3 b (n a) k))
  (h1 : ∀ m k, x1 (ix3 (0 : Fin 1) m k) = X (ix3 b m k))
  (h2 : ∀ k m, x2 (ix3 (0 : Fin 1) k m) = X (ix3 b m k))

include h0 h2 in
theorem row_eq (a : Fin 1024) : row (k0_pay3 x0 x2) a = dist X b (n a) := by
  funext m
  rw [row_apply, k0_pay3_apply]
  simp only [h0, h2]
  rfl

include h0 h2 in
theorem out0_4_apply (a : Fin 1024) (r : Fin 8) :
    out0_4 x0 x1 x2 (ix3 (0 : Fin 1) a r) = word (nb X b (n a) r.val) := by
  rw [out0_4_eq, View.canon_unit_zero hz3, View.ld_unit_zero hz3, View.ld_unit_zero hz3]
  refine (k0_pay88_apply (fun r => pickV itV (iterD itV (k0_pay3 x0 x2) r.val)) a r).trans ?_
  rw [pick_iterD itV it_apply, row_eq X b x0 x2 n h0 h2]
  rfl

include h0 h1 h2 in
theorem mom_apply (hX : Real' X) (a : Fin 1024) (c : Fin 9) :
    mom (iterW itV (k0_pay3 x0 x2) w0V 32) (k0_pay2 x1) a c
      = Ideal.div (∑ r : Fin 32, colS (fun i => X (ix3 b (nb X b (n a) r) i)) c) num := by
  classical
  unfold mom
  refine congrArg₂ Ideal.div ?_ rfl
  refine Eq.trans (Finset.sum_congr rfl fun k _ => congrArg₂ (· * ·)
    (iterW_apply itV it_apply (k0_pay3 x0 x2) w0V (fun _ _ => zero_eq) a k 32) (cols_apply (k0_pay2 x1) c k)) ?_
  rw [row_eq X b x0 x2 n h0 h2]
  refine (sum_hot (fun s => pick (dist X b (n a)) s) 32
    (fun r hr s hs e => nb_inj hX b (n a) (by omega) (by omega) e) (fun k => colS (fun i => k0_pay2 x1 (ix2 k i)) c)).trans ?_
  refine Finset.sum_congr rfl fun r _ => ?_
  refine congrFun (congrArg colS (funext fun i => ?_)) c
  rw [pts_cast, h1]
  rfl

include h0 h1 h2 in
theorem out0_3_apply (hX : Real' X) (a : Fin 1024) (q : Fin 6) :
    out0_3 x0 x1 x2 (ix3 (0 : Fin 1) a q) = cov X b (n a) (fst6 q) (snd6 q) := by
  rw [← cov_eq hX, out0_3_eq, View.canon_unit_zero hz3, View.ld_unit_zero hz3, View.ld_unit_zero hz3, View.ld_unit_zero hz3,
    k0_pay1_apply, mom_apply X b x0 x1 x2 n h0 h1 h2 hX, mom_apply X b x0 x1 x2 n h0 h1 h2 hX,
    mom_apply X b x0 x1 x2 n h0 h1 h2 hX]
  match q with
  | ⟨0, _⟩ => rfl
  | ⟨1, _⟩ => rfl
  | ⟨2, _⟩ => rfl
  | ⟨3, _⟩ => rfl
  | ⟨4, _⟩ => rfl
  | ⟨5, _⟩ => rfl

end Block

end Cert.KernelIdeal.Rounds

end
-- ==== Proof.Normals.lean ====
/- The payloads of the second call read at an index: the normals it gathers, what each differs from the first, and the
   spread of a row. -/
module

public import proofs.«01_k».proof.Proof.Penalty
public import proofs.«01_k».proof.Proof.Region0

@[expose] public section

set_option maxRecDepth 16384

noncomputable section

namespace Cert.KernelIdeal.Rounds

open Idealize.ShloMosaic Idealize.SL.Sem Cert.KernelIdeal Cert.KernelIdeal.Gen Idealize.ShloMosaic.ValueIdx Cert.Select Cert.Spec

/-! ## The gathers -/

/-- One where the place is the one named by the row. -/
def oneHot (it : IVec S1024x4096 32) (x : IVec S1024x1 32) : FVec Ideal S1024x4096 .f32 :=
  sitofp .f32 (extui 32 (cmpi .eq it (broadcastTo S1024x4096 x broadcasts_S1024x1_S1024x4096)) natLt_1_32)

/-- The normals named by a column of places. -/
def gat (v1 : FVec Ideal S4096x3 .f32) (x : IVec S1024x1 32) : FVec Ideal S1024x3 .f32 :=
  matmul (φ₂ := .f32) dot_S1024x4096_S4096x3_S1024x3_1_0_0_1_n_n none (oneHot itV x) v1 (constant S1024x3 .f32 0x00000000#32)

theorem oneHot_apply (x : IVec S1024x1 32) (a : Fin 1024) (p b : Fin 4096) (h : x (ix2 a (0 : Fin 1)) = word p) :
    oneHot itV x (ix2 a b) = if p = b then 1 else 0 := by
  unfold oneHot
  rw [sitofp_apply]
  show ((BitVec.toInt (BitVec.zeroExtend 32 (IntOp.cmpi .eq (itV (ix2 a b))
    (broadcastTo S1024x4096 x broadcasts_S1024x1_S1024x4096 (ix2 a b)))) : ℝ) : EReal) = _
  rw [it_apply, broadcastTo_apply _ _ _ (ix2 a (0 : Fin 1)) (by intro c; match c with | ⟨0, _⟩ => rfl | ⟨1, _⟩ => rfl), h]
  by_cases e : p = b
  · rw [if_pos e, e]
    simp [IntOp.cmpi]
  · rw [if_neg e]
    have : word b ≠ word p := fun q => e (word_inj q).symm
    have hz : IntOp.cmpi .eq (word b) (word p) = 0#1 := by
      show BitVec.ofBool (word b == word p) = 0#1
      rw [beq_eq_false_iff_ne.mpr this]; rfl
    rw [hz]
    simp

theorem gat_apply (v1 : FVec Ideal S4096x3 .f32) (x : IVec S1024x1 32) (a : Fin 1024) (p : Fin 4096) (k : Fin 3)
    (h : x (ix2 a (0 : Fin 1)) = word p) : gat v1 x (ix2 a k) = v1 (ix2 p k) := by
  unfold gat
  refine (Ideal.matmul_plain_apply _ _ _ _ _ _).trans ?_
  refine (congrArg₂ (· + ·) zero_eq rfl).trans ?_
  rw [zero_add]
  refine (Finset.sum_congr rfl fun (b : Fin 4096) _ =>
    congrArg₂ (· * ·) (oneHot_apply x a p b h) (rfl : v1 (ix2 b k) = v1 (ix2 b k))).trans ?_
  simp only [ite_mul, one_mul, zero_mul]
  rw [Finset.sum_ite_eq, if_pos (Finset.mem_univ _)]

theorem nrm_cast (v0 : Vec Ideal S1x4096x3 .f32) (a : Fin 4096) (k : Fin 3) :
    k1_pay3 v0 (ix2 a k) = v0 (ix3 (0 : Fin 1) a k) :=
  shapeCast_apply _ _ _ _ (by
    rw [Shape.rowMajor_val_three, Shape.rowMajor_val_two]
    show (0 * 4096 + a.val) * 3 + k.val = a.val * 3 + k.val
    omega)

theorem idx_cast (v2 : Vec Ideal S1x1024x8 .i32) (a : Fin 1024) (r : Fin 8) :
    k1_pay4 (F := Ideal) v2 (ix2 a r) = v2 (ix3 (0 : Fin 1) a r) :=
  shapeCast_apply _ _ _ _ (by
    rw [Shape.rowMajor_val_three, Shape.rowMajor_val_two]
    show (0 * 1024 + a.val) * 8 + r.val = a.val * 8 + r.val
    omega)

theorem slice_apply (v3 : IVec S1024x8 32) (r : Fin 8) (h : S1024x8.Slices ![0, r.val] S1024x1) (a : Fin 1024) :
    extractStridedSlice S1024x1 ![0, r.val] v3 h (ix2 a (0 : Fin 1)) = v3 (ix2 a r) :=
  extractStridedSlice_apply _ _ _ _ _ (fun b => by
    match b with
    | ⟨0, _⟩ => exact (Nat.zero_add _).symm
    | ⟨1, _⟩ => rfl)

/-- The eight arrays of gathered normals, as the call names them. -/
def gats (v0 : Vec Ideal S1x4096x3 .f32) (v2 : Vec Ideal S1x1024x8 .i32) : Fin 8 → FVec Ideal S1024x3 .f32 :=
  ![k1_pay5 v0 v2, k1_pay6 v0 v2, k1_pay7 v0 v2, k1_pay8 v0 v2, k1_pay9 v0 v2, k1_pay10 v0 v2,
    k1_pay12 (k1_pay3 v0) (k1_pay11 v2), k1_pay13 (k1_pay3 v0) (k1_pay4 (F := Ideal) v2) itV]

theorem gats_apply (v0 : Vec Ideal S1x4096x3 .f32) (v2 : Vec Ideal S1x1024x8 .i32) (r : Fin 8) (a : Fin 1024) (p : Fin 4096)
    (k : Fin 3) (h : v2 (ix3 (0 : Fin 1) a r) = word p) : gats v0 v2 r (ix2 a k) = v0 (ix3 (0 : Fin 1) p k) := by
  have key : ∀ hs : S1024x8.Slices ![0, r.val] S1024x1,
      gat (k1_pay3 v0) (extractStridedSlice S1024x1 ![0, r.val] (k1_pay4 (F := Ideal) v2) hs) (ix2 a k) = v0 (ix3 (0 : Fin 1) p k) :=
    fun hs => (gat_apply _ _ a p k ((slice_apply _ r hs a).trans ((idx_cast v2 a r).trans h))).trans (nrm_cast v0 p k)
  match r with
  | ⟨0, _⟩ => exact key slices_S1024x8_o0_0_S1024x1
  | ⟨1, _⟩ => exact key slices_S1024x8_o0_1_S1024x1
  | ⟨2, _⟩ => exact key slices_S1024x8_o0_2_S1024x1
  | ⟨3, _⟩ => exact key slices_S1024x8_o0_3_S1024x1
  | ⟨4, _⟩ => exact key slices_S1024x8_o0_4_S1024x1
  | ⟨5, _⟩ => exact key slices_S1024x8_o0_5_S1024x1
  | ⟨6, _⟩ => exact key slices_S1024x8_o0_6_S1024x1
  | ⟨7, _⟩ => exact key slices_S1024x8_o0_7_S1024x1

/-! ## The differences -/

theorem dots_apply (x y : FVec Ideal S1024x3 .f32) (a : Fin 1024) :
    shapeCast S1024x1 (multiReduction .add [1] S1024 (mulf x y) 0x00000000#32 reduces_S1024x3_S1024 (.inl rfl) rfl)
      shapeCasts_S1024_S1024x1 (ix2 a (0 : Fin 1)) = ∑ k : Fin 3, (x (ix2 a k) * y (ix2 a k) : EReal) := by
  rw [shapeCast_apply _ _ _ (ix1 a) (by rfl)]
  refine (Ideal.multiReduction_add_single _ _ _ _ _ _).trans ?_
  exact Finset.sum_congr rfl fun (k : Fin 3) _ => congrArg (mulf x y) (lift3 a k)

theorem len_apply (x : FVec Ideal S1024x3 .f32) (a : Fin 1024) :
    k1_pay14 x (ix2 a (0 : Fin 1)) = len (fun k => x (ix2 a k)) := by
  unfold k1_pay14
  rw [maximumf_apply]
  exact congrArg₂ max (congrArg Ideal.sqrt (dots_apply x x a)) rfl

theorem pen_apply (x y : FVec Ideal S1024x3 .f32) (a : Fin 1024) :
    k1_pay16 x y (ix2 a (0 : Fin 1)) = pen (fun k => x (ix2 a k)) (fun k => y (ix2 a k)) := by
  unfold k1_pay16
  rw [subf_apply, divf_apply]
  exact congrArg₂ (· - ·) one_eq (congrArg₂ Ideal.div (dots_apply x y a)
    (congrArg₂ (· * ·) (len_apply x a) (len_apply y a)))

/-- The eight differences of a tile, as the call names them. -/
def difs (g : Fin 8 → FVec Ideal S1024x3 .f32) : Fin 8 → FVec Ideal S1024x1 .f32 :=
  ![k1_pay15 (g 0), k1_pay16 (g 0) (g 1), k1_pay19 (k1_pay14 (g 0)) (k1_pay17 (g 2)) (k1_pay18 (g 0) (g 2)),
    k1_pay20 (g 0) (g 3) (k1_pay14 (g 0)), k1_pay21 (g 0) (g 4) (k1_pay14 (g 0)), k1_pay22 (g 0) (g 5) (k1_pay14 (g 0)),
    k1_pay24 (g 0) (g 6) (k1_pay14 (g 0)) (k1_pay23 (g 6)), k1_pay25 (g 0) (g 7) (k1_pay14 (g 0))]

theorem difs_apply (g : Fin 8 → FVec Ideal S1024x3 .f32) (r : Fin 8) (a : Fin 1024) :
    difs g r (ix2 a (0 : Fin 1)) = pen (fun k => g 0 (ix2 a k)) (fun k => g r (ix2 a k)) := by
  match r with
  | ⟨0, _⟩ => exact pen_apply (g 0) (g 0) a
  | ⟨1, _⟩ => exact pen_apply (g 0) (g 1) a
  | ⟨2, _⟩ => exact pen_apply (g 0) (g 2) a
  | ⟨3, _⟩ => exact pen_apply (g 0) (g 3) a
  | ⟨4, _⟩ => exact pen_apply (g 0) (g 4) a
  | ⟨5, _⟩ => exact pen_apply (g 0) (g 5) a
  | ⟨6, _⟩ => exact pen_apply (g 0) (g 6) a
  | ⟨7, _⟩ => exact pen_apply (g 0) (g 7) a

/-! ## The spread of a row -/

/-- The mean of the differences. -/
def avgV (g : Fin 8 → FVec Ideal S1024x3 .f32) : FVec Ideal S1024x1 .f32 :=
  k1_pay26 (g 0) (g 6) (g 7) (k1_pay14 (g 0)) (difs g 0) (difs g 1) (difs g 2) (difs g 3) (difs g 4) (difs g 5) (k1_pay23 (g 6))

/-- The first five squares. -/
def sqsV (g : Fin 8 → FVec Ideal S1024x3 .f32) : FVec Ideal S1024x1 .f32 :=
  k1_pay27 (g 0) (g 6) (g 7) (k1_pay14 (g 0)) (difs g 0) (difs g 1) (difs g 2) (difs g 3) (difs g 4) (difs g 5) (k1_pay23 (g 6))

theorem avgV_apply (g : Fin 8 → FVec Ideal S1024x3 .f32) (a : Fin 1024) :
    avgV g (ix2 a (0 : Fin 1)) = avg (fun r => difs g r (ix2 a (0 : Fin 1))) := by
  unfold avg
  rw [Fin.sum_univ_eight]
  rfl

theorem sqsV_apply (g : Fin 8 → FVec Ideal S1024x3 .f32) (a : Fin 1024) (m : EReal) (hm : avgV g (ix2 a (0 : Fin 1)) = m) :
    sqsV g (ix2 a (0 : Fin 1)) = (difs g 0 (ix2 a (0 : Fin 1)) - m) * (difs g 0 (ix2 a (0 : Fin 1)) - m)
      + (difs g 1 (ix2 a (0 : Fin 1)) - m) * (difs g 1 (ix2 a (0 : Fin 1)) - m)
      + (difs g 2 (ix2 a (0 : Fin 1)) - m) * (difs g 2 (ix2 a (0 : Fin 1)) - m)
      + (difs g 3 (ix2 a (0 : Fin 1)) - m) * (difs g 3 (ix2 a (0 : Fin 1)) - m)
      + (difs g 4 (ix2 a (0 : Fin 1)) - m) * (difs g 4 (ix2 a (0 : Fin 1)) - m) := by
  subst hm
  refine Eq.trans ?_ (congrArg₂ (· + ·) (congrArg₂ (· + ·) (congrArg₂ (· + ·) (congrArg₂ (· + ·)
    (zero_add _) rfl) rfl) rfl) rfl)
  rw [← zero_eq]
  rfl

/-- The spread of every row of a tile. -/
def sdV (g : Fin 8 → FVec Ideal S1024x3 .f32) : FVec Ideal S1024x1 .f32 :=
  sqrt (divf (addf (addf (addf (sqsV g) (mulf (subf (difs g 5) (avgV g)) (subf (difs g 5) (avgV g))))
    (mulf (subf (difs g 6) (avgV g)) (subf (difs g 6) (avgV g)))) (mulf (subf (difs g 7) (avgV g)) (subf (difs g 7) (avgV g))))
    (broadcast S1024x1 (Scalar.ofBits .f32 0x40E00000#32)))

theorem sdV_apply (g : Fin 8 → FVec Ideal S1024x3 .f32) (a : Fin 1024) :
    sdV g (ix2 a (0 : Fin 1)) = sd (fun r => difs g r (ix2 a (0 : Fin 1))) := by
  unfold sd
  rw [Fin.sum_univ_eight, ← avgV_apply, ← sqsV_apply g a _ rfl]
  rfl

/-- What a tile adds to the result. -/
def tileV (g : Fin 8 → FVec Ideal S1024x3 .f32) (v208 : Vec Ideal S1x1x128 .f32) : FVec Ideal S1x1x128 .f32 :=
  k1_pay2 (difs g 5) (difs g 6) (difs g 7) (avgV g) (sqsV g) v208

/-- The entries of a tile are its rows. -/
def tileEquiv : Fin 1024 ≃ S1x1024x1.Idx where
  toFun a := ix3 (0 : Fin 1) a (0 : Fin 1)
  invFun i := (i 1 : Fin 1024)
  left_inv _ := rfl
  right_inv i := funext fun b => by
    match b with
    | ⟨0, _⟩ => exact Subsingleton.elim (α := Fin 1) _ _
    | ⟨1, _⟩ => rfl
    | ⟨2, _⟩ => exact Subsingleton.elim (α := Fin 1) _ _

theorem tile_sum (x : FVec Ideal S1024x1 .f32) (j : S1.Idx) :
    multiReduction .add [1, 2] S1 (shapeCast S1x1024x1 x shapeCasts_S1024x1_S1x1024x1) 0x00000000#32 reduces_S1x1024x1_S1
      (.inl rfl) rfl j = ∑ a : Fin 1024, (x (ix2 a (0 : Fin 1)) : EReal) := by
  refine (Ideal.multiReduction_add_total _ _ _ (fun b => by match b with | ⟨0, _⟩ => rfl) _ _ _).trans ?_
  refine (Fintype.sum_equiv tileEquiv (fun a => (x (ix2 a (0 : Fin 1)) : EReal)) _ (fun a => ?_)).symm
  exact (shapeCast_apply _ _ _ _ (by
    rw [Shape.rowMajor_val_three, Shape.rowMajor_val_two]
    show a.val * 1 + 0 = (0 * 1024 + a.val) * 1 + 0
    omega)).symm

theorem tileV_apply (g : Fin 8 → FVec Ideal S1024x3 .f32) (v208 : Vec Ideal S1x1x128 .f32) (l : Fin 128) :
    tileV g v208 (ix3 (0 : Fin 1) (0 : Fin 1) l) = (v208 (ix3 (0 : Fin 1) (0 : Fin 1) l) : EReal)
      + Ideal.div (∑ a : Fin 1024, sd (fun r => difs g r (ix2 a (0 : Fin 1)))) total := by
  unfold tileV k1_pay2
  rw [addf_apply]
  refine congrArg₂ (· + ·) (shapeCast_apply _ _ _ _ rfl) (congrArg₂ Ideal.div ?_ rfl)
  refine (tile_sum (sdV g) _).trans ?_
  exact Finset.sum_congr rfl fun a _ => sdV_apply g a

end Cert.KernelIdeal.Rounds

end
-- ==== Proof.Arrays0.lean ====
/- The result arrays of the first call, put together from the blocks of the sixteen points of its grid. -/
module

public import proofs.«01_k».proof.Proof.Region0

@[expose] public section

set_option maxRecDepth 16384

noncomputable section

namespace Cert.KernelIdeal.Rounds

open Idealize.ShloMosaic Idealize.ShloMosaic.TcCoe Idealize.SL.Sem Cert.KernelIdeal Cert.KernelIdeal.Gen
open Idealize.ShloMosaic.ValueIdx Cert.Select Cert.Spec
open Idealize.ShloMosaic.Pipeline (Dat)

theorem idx0_0 : ∀ t : Fin cfg0.N, win0_0.index t = ![t.val / 4, t.val % 4, 0] :=
  (by decide +kernel : ∀ t : Fin grid0.N, win0_0.index t = ![t.val / 4, t.val % 4, 0])

theorem idx0_1 : ∀ t : Fin cfg0.N, win0_1.index t = ![t.val / 4, 0, 0] :=
  (by decide +kernel : ∀ t : Fin grid0.N, win0_1.index t = ![t.val / 4, 0, 0])

theorem idx0_2 : ∀ t : Fin cfg0.N, win0_2.index t = ![t.val / 4, 0, 0] :=
  (by decide +kernel : ∀ t : Fin grid0.N, win0_2.index t = ![t.val / 4, 0, 0])

theorem idx0_3 : ∀ t : Fin cfg0.N, win0_3.index t = ![t.val / 4, t.val % 4, 0] :=
  (by decide +kernel : ∀ t : Fin grid0.N, win0_3.index t = ![t.val / 4, t.val % 4, 0])

theorem idx0_4 : ∀ t : Fin cfg0.N, win0_4.index t = ![t.val / 4, t.val % 4, 0] :=
  (by decide +kernel : ∀ t : Fin grid0.N, win0_4.index t = ![t.val / 4, t.val % 4, 0])

/-- The cloud of a point of the grid. -/
def cl0 (t : Fin cfg0.N) : Fin 4 := ⟨t.val / 4, by have : t.val < 16 := t.isLt; omega⟩

/-- The point of the cloud that a row of the tile is. -/
def pt0 (t : Fin cfg0.N) (a : Fin 1024) : Fin 4096 := ⟨t.val % 4 * 1024 + a.val, by have := a.isLt; omega⟩

variable (V : (c : Dev nD) → (b : Ref sig .tc) → Buf (Elt Ideal) ((c : Thread nD τ).loc b)) (c : Dev nD)

/-- The points the call is entered with. -/
abbrev ptsOf : Cloud := V c main_arg0

theorem blk0_0 (t : Fin cfg0.N) (a : Fin 1024) (k : Fin 3) :
    iblk0 V c 0 t (ix3 (0 : Fin 1) a k) = ptsOf V c (ix3 (cl0 t) (pt0 t a) k) := by
  unfold iblk0
  show V c main_arg0 ((win0_0.blk t).view.emb (ix3 (0 : Fin 1) a k)) = _
  refine congrArg (V c main_arg0) ?_
  blk_ext [idx0_0, cl0, pt0]

theorem blk0_1 (t : Fin cfg0.N) (a : Fin 4096) (k : Fin 3) :
    iblk0 V c 1 t (ix3 (0 : Fin 1) a k) = ptsOf V c (ix3 (cl0 t) a k) := by
  unfold iblk0
  show V c main_arg0 ((win0_1.blk t).view.emb (ix3 (0 : Fin 1) a k)) = _
  refine congrArg (V c main_arg0) ?_
  blk_ext [idx0_1, cl0, pt0]

theorem blk0_2 (hV : V c main_v0 = transpose S4x3x4096 [0, 2, 1] (V c main_arg0) transposes_S4x4096x3_S4x3x4096_0_2_1)
    (t : Fin cfg0.N) (k : Fin 3) (a : Fin 4096) :
    iblk0 V c 2 t (ix3 (0 : Fin 1) k a) = ptsOf V c (ix3 (cl0 t) a k) := by
  unfold iblk0
  show V c main_v0 ((win0_2.blk t).view.emb (ix3 (0 : Fin 1) k a)) = _
  have e : (win0_2.blk t).view.emb (ix3 (0 : Fin 1) k a) = ix3 (cl0 t) k a := by
    blk_ext [idx0_2, cl0, pt0]
  rw [e, hV]
  exact transpose_apply _ _ _ _ _ (fun b => by
    match b with
    | ⟨0, _⟩ => rfl
    | ⟨1, _⟩ => rfl
    | ⟨2, _⟩ => rfl)

/-- The covariances as an array. -/
def covA (X : Cloud) : S4x4096x6.Idx → EReal := fun i => cov X (i 0) (i 1) (fst6 (i 2)) (snd6 (i 2))

/-- The first eight neighbours as an array. -/
def nbA (X : Cloud) : S4x4096x8.Idx → BitVec 32 := fun i => word (nb X (i 0) (i 1) (i 2 : Fin 8).val)

theorem after0_3_apply (hX : Real' (ptsOf V c))
    (hV : V c main_v0 = transpose S4x3x4096 [0, 2, 1] (V c main_arg0) transposes_S4x4096x3_S4x3x4096_0_2_1)
    (t : Fin cfg0.N) (y : S1x1024x6.Idx) :
    out0_3 (iblk0 V c 0 t) (iblk0 V c 1 t) (iblk0 V c 2 t) y = covA (ptsOf V c) ((win0_3.blk t).view.emb y) := by
  have e : (win0_3.blk t).view.emb y = ix3 (cl0 t) (pt0 t (y 1)) (y 2 : Fin 6) := by
    blk_ext [idx0_3, cl0, pt0]
  have ey : y = ix3 (0 : Fin 1) (y 1 : Fin 1024) (y 2 : Fin 6) := by
    funext b
    match b with
    | ⟨0, _⟩ => exact Subsingleton.elim (α := Fin 1) _ _
    | ⟨1, _⟩ => rfl
    | ⟨2, _⟩ => rfl
  rw [e]
  refine (congrArg _ ey).trans ?_
  exact out0_3_apply (ptsOf V c) (cl0 t) _ _ _ (pt0 t) (blk0_0 V c t) (blk0_1 V c t) (blk0_2 V c hV t) hX (y 1) (y 2)

theorem after0_4_apply
    (hV : V c main_v0 = transpose S4x3x4096 [0, 2, 1] (V c main_arg0) transposes_S4x4096x3_S4x3x4096_0_2_1)
    (t : Fin cfg0.N) (y : S1x1024x8.Idx) :
    out0_4 (iblk0 V c 0 t) (iblk0 V c 1 t) (iblk0 V c 2 t) y = nbA (ptsOf V c) ((win0_4.blk t).view.emb y) := by
  have e : (win0_4.blk t).view.emb y = ix3 (cl0 t) (pt0 t (y 1)) (y 2 : Fin 8) := by
    blk_ext [idx0_4, cl0, pt0]
  have ey : y = ix3 (0 : Fin 1) (y 1 : Fin 1024) (y 2 : Fin 8) := by
    funext b
    match b with
    | ⟨0, _⟩ => exact Subsingleton.elim (α := Fin 1) _ _
    | ⟨1, _⟩ => rfl
    | ⟨2, _⟩ => rfl
  rw [e]
  refine (congrArg _ ey).trans ?_
  exact out0_4_apply (ptsOf V c) (cl0 t) _ _ _ (pt0 t) (blk0_0 V c t) (blk0_2 V c hV t) (y 1) (y 2)

theorem covers0_3 : (cfg0.win 3).Covers := by decide +kernel

theorem covers0_4 : (cfg0.win 4).Covers := by decide +kernel

set_option maxHeartbeats 4000000 in
theorem arr0_3 (G : Buf (Elt Ideal) ((c : Thread nD τ).loc main_v1_0))
    (h : ∀ (t : Fin cfg0.N) (y : S1x1024x6.Idx),
      out0_3 (iblk0 V c 0 t) (iblk0 V c 1 t) (iblk0 V c 2 t) y = G ((win0_3.blk t).view.emb y)) :
    (dat0 V c).arrAt 3 cfg0.N = G := by
  refine (dat0 V c).arrAt_eq_of_covers 3 G covers0_3 ?_
  intro t ht y
  blk_simp
  exact h t y

theorem final0_3 (hX : Real' (ptsOf V c))
    (hV : V c main_v0 = transpose S4x3x4096 [0, 2, 1] (V c main_arg0) transposes_S4x4096x3_S4x3x4096_0_2_1) :
    (dat0 V c).arrAt 3 cfg0.N = covA (ptsOf V c) :=
  arr0_3 V c _ (after0_3_apply V c hX hV)

set_option maxHeartbeats 4000000 in
theorem arr0_4 (G : Buf (Elt Ideal) ((c : Thread nD τ).loc main_v1_1))
    (h : ∀ (t : Fin cfg0.N) (y : S1x1024x8.Idx),
      out0_4 (iblk0 V c 0 t) (iblk0 V c 1 t) (iblk0 V c 2 t) y = G ((win0_4.blk t).view.emb y)) :
    (dat0 V c).arrAt 4 cfg0.N = G := by
  refine (dat0 V c).arrAt_eq_of_covers 4 G covers0_4 ?_
  intro t ht y
  blk_simp
  exact h t y

theorem final0_4
    (hV : V c main_v0 = transpose S4x3x4096 [0, 2, 1] (V c main_arg0) transposes_S4x4096x3_S4x3x4096_0_2_1) :
    (dat0 V c).arrAt 4 cfg0.N = nbA (ptsOf V c) :=
  arr0_4 V c _ (after0_4_apply V c hV)

end Cert.KernelIdeal.Rounds

end
-- ==== Proof.Arrays1.lean ====
/- The result array of the second call: every block accumulates the four tiles of its cloud. -/
module

public import proofs.«01_k».proof.Proof.Normals
public import proofs.«01_k».proof.Proof.Arrays0
public import Idealize.ShloMosaic.Lib.Pipeline.ValueKit.Acc

@[expose] public section

set_option maxRecDepth 16384

noncomputable section

namespace Cert.KernelIdeal.Rounds

open Idealize.ShloMosaic Idealize.ShloMosaic.TcCoe Idealize.SL.Sem Cert.KernelIdeal Cert.KernelIdeal.Gen
open Idealize.ShloMosaic.ValueIdx Cert.Select Cert.Spec
open Idealize.ShloMosaic.Pipeline (Dat)

theorem idx1_0 : ∀ t : Fin cfg1.N, win1_0.index t = ![t.val / 4, 0, 0] :=
  (by decide +kernel : ∀ t : Fin grid1.N, win1_0.index t = ![t.val / 4, 0, 0])

theorem idx1_1 : ∀ t : Fin cfg1.N, win1_1.index t = ![t.val / 4, t.val % 4, 0] :=
  (by decide +kernel : ∀ t : Fin grid1.N, win1_1.index t = ![t.val / 4, t.val % 4, 0])

theorem idx1_2 : ∀ t : Fin cfg1.N, win1_2.index t = ![t.val / 4, 0, 0] :=
  (by decide +kernel : ∀ t : Fin grid1.N, win1_2.index t = ![t.val / 4, 0, 0])

/-- The cloud of a point of the grid. -/
def cl1 (t : Fin cfg1.N) : Fin 4 := ⟨t.val / 4, by have : t.val < 16 := t.isLt; omega⟩

/-- The point of the cloud that a row of the tile is. -/
def pt1 (t : Fin cfg1.N) (a : Fin 1024) : Fin 4096 := ⟨t.val % 4 * 1024 + a.val, by have := a.isLt; omega⟩

variable (V : (c : Dev nD) → (b : Ref sig .tc) → Buf (Elt Ideal) ((c : Thread nD τ).loc b)) (c : Dev nD)

/-- The normals the call is entered with. -/
abbrev nrmOf : Cloud := V c main_arg1

theorem blk1_0 (t : Fin cfg1.N) (a : Fin 4096) (k : Fin 3) :
    iblk1 V c 0 t (ix3 (0 : Fin 1) a k) = nrmOf V c (ix3 (cl1 t) a k) := by
  unfold iblk1
  show V c main_arg1 ((win1_0.blk t).view.emb (ix3 (0 : Fin 1) a k)) = _
  refine congrArg (V c main_arg1) ?_
  blk_ext [idx1_0, cl1, pt1]

theorem blk1_1 (X : Cloud) (hV : V c main_v1_1 = nbA X) (t : Fin cfg1.N) (a : Fin 1024) (r : Fin 8) :
    iblk1 V c 1 t (ix3 (0 : Fin 1) a r) = word (nb X (cl1 t) (pt1 t a) r.val) := by
  unfold iblk1
  show V c main_v1_1 ((win1_1.blk t).view.emb (ix3 (0 : Fin 1) a r)) = _
  have e : (win1_1.blk t).view.emb (ix3 (0 : Fin 1) a r) = ix3 (cl1 t) (pt1 t a) r := by
    blk_ext [idx1_1, cl1, pt1]
  rw [e, hV]
  rfl

/-- What a tile adds at a point of the grid. -/
def tile (X N : Cloud) (t : Fin cfg1.N) : EReal := Ideal.div (∑ a : Fin 1024, sd (pens X N (cl1 t) (pt1 t a))) total

theorem step_apply (X : Cloud) (hV : V c main_v1_1 = nbA X) (t : Fin cfg1.N) (v208 : Vec Ideal S1x1x128 .f32)
    (l : Fin 128) :
    tileV (gats (iblk1 V c 0 t) (iblk1 V c 1 t)) v208 (ix3 (0 : Fin 1) (0 : Fin 1) l)
      = (v208 (ix3 (0 : Fin 1) (0 : Fin 1) l) : EReal) + tile X (nrmOf V c) t := by
  rw [tileV_apply]
  refine congrArg₂ (· + ·) rfl (congrArg₂ Ideal.div (Finset.sum_congr rfl fun a _ => congrArg sd (funext fun r => ?_)) rfl)
  rw [difs_apply]
  have g : ∀ (r : Fin 8), (fun k => gats (iblk1 V c 0 t) (iblk1 V c 1 t) r (ix2 a k))
      = nrm (nrmOf V c) (cl1 t) (nb X (cl1 t) (pt1 t a) r.val) := fun r => funext fun k => by
    rw [gats_apply _ _ r a _ k (blk1_1 V c X hV t a r), blk1_0]
    rfl
  rw [g, g]
  rfl

theorem eta128 (y : S1x1x128.Idx) : y = ix3 (0 : Fin 1) (0 : Fin 1) (y 2 : Fin 128) := by
  funext b
  match b with
  | ⟨0, _⟩ => exact Subsingleton.elim (α := Fin 1) _ _
  | ⟨1, _⟩ => exact Subsingleton.elim (α := Fin 1) _ _
  | ⟨2, _⟩ => rfl

theorem step_at (X : Cloud) (hV : V c main_v1_1 = nbA X) (t : Fin cfg1.N) (v208 : Vec Ideal S1x1x128 .f32)
    (y : S1x1x128.Idx) :
    tileV (gats (iblk1 V c 0 t) (iblk1 V c 1 t)) v208 y = (v208 y : EReal) + tile X (nrmOf V c) t := by
  have e := eta128 y
  exact (congrArg _ e).trans ((step_apply V c X hV t v208 (y 2 : Fin 128)).trans
    (congrArg (fun z => (v208 z : EReal) + tile X (nrmOf V c) t) e.symm))

theorem outA (t : Fin cfg1.N) (h : t.val % 4 = 0) :
    outsAt1 V c t.val t.isLt = tileV (gats (iblk1 V c 0 t) (iblk1 V c 1 t)) (k1_pay1 (F := Ideal)) := by
  rw [outsAt1_A V c t h]
  frame_out
  rfl

theorem outB (t : Fin cfg1.N) (h : ¬ t.val % 4 = 0) :
    outsAt1 V c t.val t.isLt = tileV (gats (iblk1 V c 0 t) (iblk1 V c 1 t))
      (outsAt1 V c (t.val - 1) (Nat.lt_of_le_of_lt (Nat.sub_le _ _) t.isLt)) := by
  rw [outsAt1_B V c t h]
  frame_out
  rfl

theorem run_apply (X : Cloud) (hV : V c main_v1_1 = nbA X) (t : Fin cfg1.N) (ht : t.val % 4 = 3) (y : S1x1x128.Idx) :
    outsAt1 V c t.val t.isLt y = penalty X (nrmOf V c) (cl1 t) := by
  have e := Pipeline.eq_sum_fin_of_reset_step_apply_of_flush (M := EReal) (fun n h => outsAt1 V c n h) 4 (fun _ => 0)
    (fun t _ => tile X (nrmOf V c) t)
    (fun t h y => by
      rw [outA V c t h, step_at V c X hV]
      exact congrArg₂ (· + ·) zero_eq rfl)
    (fun t h y => by
      rw [outB V c t h, step_at V c X hV]) t ht y
  refine e.trans ?_
  unfold penalty
  rw [sum_tiles, ← penalty_tiles, Fin.sum_univ_four, zero_add, zero_add]
  have h16 : t.val < 16 := t.isLt
  have g : ∀ (s : Fin 4) (hs : 4 * (t.val / 4) + s.val < cfg1.N), tile X (nrmOf V c) ⟨4 * (t.val / 4) + s.val, hs⟩
      = Ideal.div (∑ a : Fin 1024, sd (pens X (nrmOf V c) (cl1 t)
          ⟨s.val * 1024 + a.val, by have := s.isLt; have := a.isLt; omega⟩)) total := fun s hs => by
    unfold tile
    refine congrArg₂ Ideal.div (Finset.sum_congr rfl fun a _ => congrArg sd (congrArg₂ (pens X (nrmOf V c)) ?_ ?_)) rfl
    · apply Fin.ext
      show (4 * (t.val / 4) + s.val) / 4 = t.val / 4
      have := s.isLt; omega
    · apply Fin.ext
      show (4 * (t.val / 4) + s.val) % 4 * 1024 + a.val = s.val * 1024 + a.val
      have := s.isLt; omega
  exact congrArg₂ (· + ·) (congrArg₂ (· + ·) (congrArg₂ (· + ·) (g 0 _) (g 1 _)) (g 2 _)) (g 3 _)

/-- The mean spreads as the call leaves them. -/
def penA (X N : Cloud) : S4x1x128.Idx → EReal := fun i => penalty X N (i 0)

theorem after1_2_apply (X : Cloud) (hV : V c main_v1_1 = nbA X) (t : Fin cfg1.N) (ht : t.val % 4 = 3) (y : S1x1x128.Idx) :
    outsAt1 V c t.val t.isLt y = penA X (nrmOf V c) ((win1_2.blk t).view.emb y) := by
  have e : (win1_2.blk t).view.emb y = ix3 (cl1 t) (0 : Fin 1) (y 2 : Fin 128) := by
    blk_ext [idx1_2, cl1, pt1]
  rw [e, run_apply V c X hV t ht]
  rfl

theorem covers1_2 : (cfg1.win 2).Covers := by decide +kernel

set_option maxHeartbeats 4000000 in
theorem arr1_2 (G : Buf (Elt Ideal) ((c : Thread nD τ).loc main_v2))
    (h : ∀ (t : Fin cfg1.N) (_ : t.val % 4 = 3) (y : S1x1x128.Idx),
      outsAt1 V c t.val t.isLt y = G ((win1_2.blk t).view.emb y)) :
    (dat1 V c).arrAt 2 cfg1.N = G := by
  refine (dat1 V c).arrAt_eq_of_covers 2 G covers1_2 ?_
  intro t ht y
  rw [after1_2]
  blk_simp
  exact h t ((flush1_2 t).mp ht) y

theorem final1_2 (X : Cloud) (hV : V c main_v1_1 = nbA X) :
    (dat1 V c).arrAt 2 cfg1.N = penA X (nrmOf V c) :=
  arr1_2 V c _ (after1_2_apply V c X hV)

end Cert.KernelIdeal.Rounds

end
-- ==== Proof.KernelRun.lean ====
/- The kernel's run with its two results: what the boundary after each call holds, and the launch that reads it. -/
module

public import proofs.«01_k».proof.Proof.Arrays1

@[expose] public section

set_option maxRecDepth 16384

noncomputable section

namespace Cert.KernelIdeal.Rounds

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Select Cert.Spec

section Launch

variable {F : FTy → Type} [FloatOps F]
variable (m : (ℓ : Loc nD τ sig) → Buf (Elt F) ℓ) (ρ : Dev nD → PrngReg)

set_option backward.isDefEq.respectTransparency.types false in
/-- The kernel runs to its end, its two results hold what the last boundary holds, and its arguments are as launched. -/
theorem ends : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v1_0) = W4 m ρ c (Proc.devRef .tc main_v1_0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v4 (by decide)), h c _ (mem_uc main_v1_0 (by decide)),
       (h c _ (mem_uc main_arg0 (by decide))).trans (W4_main_arg0 m ρ c),
       (h c _ (mem_uc main_arg1 (by decide))).trans (W4_main_arg1 m ρ c)⟩)

end Launch

variable (m : (ℓ : Loc nD τ sig) → Buf (Elt Ideal) ℓ) (ρ : Dev nD → PrngReg) (c : Dev nD)

/-- The points the kernel is launched with. -/
abbrev ptsIn : Cloud := m ((c : Thread nD τ).loc main_arg0)

/-- The normals it is launched with. -/
abbrev nrmIn : Cloud := m ((c : Thread nD τ).loc main_arg1)

/-- The one operation before the first call turns the points round. -/
theorem turned : V1 m ρ c main_v0 = transpose S4x3x4096 [0, 2, 1] (V1 m ρ c main_arg0) transposes_S4x4096x3_S4x3x4096_0_2_1 := by
  have h : V1 m ρ c main_arg0 = ptsIn m c := W1_args m ρ c main_arg0 (by decide)
  rw [h]
  show StableHlo.after hostOps0 _ (Proc.devRef .tc main_v0) = _
  after_results

theorem ptsOf_V1 : ptsOf (V1 m ρ) c = ptsIn m c := W1_args m ρ c main_arg0 (by decide)

/-- The covariances after the first call. -/
theorem covs_V2 (hX : Real' (ptsIn m c)) : V2 m ρ c main_v1_0 = covA (ptsIn m c) := by
  have h := final0_3 (V1 m ρ) c ((ptsOf_V1 m ρ c).symm ▸ hX) (turned m ρ c)
  rw [ptsOf_V1] at h
  exact (hF0 m ρ c 3).symm.trans h

/-- The neighbours after the first call. -/
theorem nbs_V2 : V2 m ρ c main_v1_1 = nbA (ptsIn m c) := by
  have h := final0_4 (V1 m ρ) c (turned m ρ c)
  rw [ptsOf_V1] at h
  exact (hF0 m ρ c 4).symm.trans h

theorem nrmOf_V2 : nrmOf (V2 m ρ) c = nrmIn m c := W2_args m ρ c main_arg1 (by decide)

/-- The spreads after the second call. -/
theorem pens_V3 : V3 m ρ c main_v2 = penA (ptsIn m c) (nrmIn m c) := by
  have h := final1_2 (V2 m ρ) c (ptsIn m c) (nbs_V2 m ρ c)
  rw [nrmOf_V2] at h
  exact (hF1 m ρ c 2).symm.trans h

/-- The covariances at the end. -/
theorem covs_end (hX : Real' (ptsIn m c)) : W4 m ρ c (Proc.devRef .tc main_v1_0) = covA (ptsIn m c) :=
  (W4_of m ρ c main_v1_0 (by decide)).trans ((W3_of m ρ c main_v1_0 (by decide)).trans (covs_V2 m ρ c hX))

/-- The mean spreads at the end. -/
theorem pens_end : W4 m ρ c (Proc.devRef .tc main_v4) = fun i : S4.Idx => penalty (ptsIn m c) (nrmIn m c) (i 0) := by
  have e : W4 m ρ c (Proc.devRef .tc main_v4)
      = shapeCast S4 (extractStridedSlice S4x1x1 ![0, 0, 0] (V3 m ρ c main_v2) slices_S4x1x128_S4x1x1_0_0_0) shapeCasts_S4x1x1_S4 := by
    show StableHlo.after hostOps2 _ (Proc.devRef .tc main_v4) = _
    after_results
    rfl
  rw [e, pens_V3]
  funext i
  refine (shapeCast_apply _ _ i (ix3 (i 0 : Fin 4) (0 : Fin 1) (0 : Fin 1)) (by
    rw [Shape.rowMajor_val_three, Shape.rowMajor_val_one]; show ((i 0).val * 1 + 0) * 1 + 0 = (i 0).val; omega)).trans ?_
  refine (extractStridedSlice_apply _ _ _ _ (ix3 (i 0 : Fin 4) (0 : Fin 1) (0 : Fin 128)) (fun a => by
    match a with
    | ⟨0, _⟩ => show (i 0).val = 0 + (i 0).val; omega
    | ⟨1, _⟩ => rfl
    | ⟨2, _⟩ => rfl)).trans ?_
  rfl

end Cert.KernelIdeal.Rounds

end
-- ==== Proof.RefNear.lean ====
/- The reference's neighbours: its distances, and the places its sorts select. -/
module

public import proofs.«01_k».proof.Proof.Gen.ReferenceIdeal.Read
public import proofs.«01_k».proof.Proof.Penalty

@[expose] public section

set_option maxRecDepth 16384

noncomputable section

namespace Cert.ReferenceIdeal.Near

open Cert.ReferenceIdeal Cert.ReferenceIdeal.Gen Cert.ReferenceIdeal.Read Idealize.ShloMosaic Idealize.ShloMosaic.TcCoe
open Idealize.ShloMosaic.ValueIdx Cert.Select Cert.Spec

theorem zero_eq : (Ideal.ofBits .f32 0x00000000#32 : EReal) = 0 := by simp [Ideal.ofBits, Ideal.ieee]

theorem one_eq : (Ideal.ofBits .f32 0x3F800000#32 : EReal) = 1 := Ideal.ofBits_one_f32

theorem sq_apply (X : Cloud) (b : Fin 4) (n : Fin 4096) : val_main_v1 (F := Ideal) X (ix2 b n) = sq X b n := by
  rw [val_main_v1_apply]
  refine (congrArg₂ (· + ·) zero_eq (Finset.sum_congr rfl fun (k : Fin 3) _ => ?_)).trans (zero_add _)
  rw [val_main_v0_apply]
  have e : idx_main_v1 (ix2 b n) k = ix3 b n k := by
    funext a
    match a with
    | ⟨0, _⟩ => rfl
    | ⟨1, _⟩ => rfl
    | ⟨2, _⟩ => rfl
  rw [e]
  rfl

theorem dot_apply (X : Cloud) (b : Fin 4) (n m : Fin 4096) : val_main_v7 (F := Ideal) X (ix3 b n m) = dot X b n m := by
  rw [val_main_v7_apply]
  refine Finset.sum_congr rfl fun (k : Fin 3) _ => ?_
  have e : lidx_main_v7 (ix3 b n m) k = ix3 b n k := by
    funext a
    match a with
    | ⟨0, _⟩ => rfl
    | ⟨1, _⟩ => rfl
    | ⟨2, _⟩ => rfl
  have e' : ridx_main_v7 (ix3 b n m) k = ix3 b m k := by
    funext a
    match a with
    | ⟨0, _⟩ => rfl
    | ⟨1, _⟩ => rfl
    | ⟨2, _⟩ => rfl
  rw [e, e']

theorem dist_apply (X : Cloud) (b : Fin 4) (n m : Fin 4096) : val_main_v12 (F := Ideal) X (ix3 b n m) = dist X b n m := by
  have e4 : idx_main_v2 (idx_main_v4 (ix3 b n m)) = ix2 b n := by
    funext a
    match a with
    | ⟨0, _⟩ => rfl
    | ⟨1, _⟩ => rfl
  have e5 : idx_main_v3 (idx_main_v5 (ix3 b n m)) = ix2 b m := by
    funext a
    match a with
    | ⟨0, _⟩ => rfl
    | ⟨1, _⟩ => rfl
  rw [val_main_v12_apply, val_main_v10_apply, val_main_v6_apply, val_main_v4_apply, val_main_v2_apply, val_main_v5_apply,
    val_main_v3_apply, val_main_v9_apply, val_main_v8_apply, val_main_v11_apply, e4, e5, sq_apply, sq_apply, dot_apply]
  exact congrArg₂ max rfl zero_eq

/-! ## The sort -/

/-- The greater of two negated numbers is the one that comes from the lesser. -/
theorem neg_gt (x y : EReal) : ((FloatOps.cmpfTotal (F := Ideal) (φ := .f32) .gt (-x) (-y)) == 1#1) = decide (x < y) := by
  show (Ideal.cmp .ogt (-x) (-y) == 1#1) = _
  unfold Ideal.cmp
  by_cases h : x < y
  · have : -y < -x := EReal.neg_lt_neg_iff.mpr h
    simp [h]
  · have : ¬ -y < -x := fun q => h (EReal.neg_lt_neg_iff.mp q)
    simp [h]

/-- A place as a word. -/
def word (k : Fin 4096) : BitVec 32 := BitVec.ofNat 32 k.val

theorem along_eq (b : Fin 4) (n : Fin 4096) (r k : Fin 4096) :
    Shape.Idx.along (s := S4x4096x4096) (ix3 b n r) (2 : Fin 3) k = ix3 b n k := by
  funext a
  match a with
  | ⟨0, _⟩ => rfl
  | ⟨1, _⟩ => rfl
  | ⟨2, _⟩ => rfl

theorem sort2_apply (s : Shape) (d : ℕ) (hd : d < s.rank) {α β : Type} (cmp : α × β → α × β → BitVec 1) (x : s.Idx → α)
    (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The places along the last axis. -/
def placesV : IVec S4x4096x4096 32 := fun i => if hd : 2 < S4x4096x4096.rank then iotaInDim S4x4096x4096 32 ⟨2, hd⟩ i else 0#32

theorem placesV_apply (b : Fin 4) (n : Fin 4096) (k : Fin 4096) : placesV (ix3 b n k) = word k := by
  unfold placesV
  rw [dif_pos (by decide)]
  rfl

theorem top_apply {K : ℕ} (hK : K ≤ 4096) (D : FVec Ideal S4x4096x4096 .f32) (f : Fin 4096 → EReal) (hf : ∀ k, f k ≠ ⊤)
    (b : Fin 4) (n : Fin 4096) (hD : ∀ m, D (ix3 b n m) = -(f m))
    (h : S4x4096x4096.Slices (fun _ => 0) ⟨3, ![4, 4096, K]⟩) (r : Fin K) :
    (Host.topK ⟨3, ![4, 4096, K]⟩ 2 (FloatOps.cmpfTotal (F := Ideal) (φ := .f32) .gt) D h).2 (ix3 b n r) = word (pick f r) := by
  change extractStridedSlice ⟨3, ![4, 4096, K]⟩ (fun _ => 0)
    (Host.sort2 S4x4096x4096 2 (fun l r => FloatOps.cmpfTotal (F := Ideal) (φ := .f32) .gt l.1 r.1) D
      placesV).2 h (ix3 b n r) = _
  refine (extractStridedSlice_apply (fun _ => 0) _ h (ix3 b n r) (ix3 b n (r.castLE hK)) (fun a => by
    match a with
    | ⟨0, _⟩ => exact (Nat.zero_add _).symm
    | ⟨1, _⟩ => exact (Nat.zero_add _).symm
    | ⟨2, _⟩ => exact (Nat.zero_add _).symm)).trans ?_
  rw [← sortedFrom_eq_pick hf (fun k k' => FloatOps.cmpfTotal (F := Ideal) (φ := .f32) .gt (D (ix3 b n k)) (D (ix3 b n k')) == 1#1)
    (fun k k' => by rw [hD, hD]; exact neg_gt _ _) hK r]
  refine (sort2_apply S4x4096x4096 2 (by decide) _ D placesV (ix3 b n (r.castLE hK))).trans ?_
  refine (congrArg placesV (along_eq b n (r.castLE hK) _)).trans ((placesV_apply b n _).trans (congrArg word ?_))
  refine congrArg (fun R => sortedFrom R (r.castLE hK)) (funext fun k => funext fun k' => ?_)
  exact congrArg₂ (fun u v => FloatOps.cmpfTotal (F := Ideal) (φ := .f32) .gt (D u) (D v) == 1#1)
    (along_eq b n (r.castLE hK) k) (along_eq b n (r.castLE hK) k')

theorem idx32_apply {X : Cloud} (hX : Real' X) (b : Fin 4) (n : Fin 4096) (r : Fin 32) :
    val_main_indices (F := Ideal) X (ix3 b n r) = word (nb X b n r.val) := by
  unfold val_main_indices
  exact top_apply (by decide) _ (dist X b n) (dist_ne_top hX b n) b n
    (fun m => by rw [val_main_v13_apply, dist_apply]; rfl) _ r

theorem idx8_apply {X : Cloud} (hX : Real' X) (b : Fin 4) (n : Fin 4096) (r : Fin 8) :
    val_main_indices_7 (F := Ideal) X (ix3 b n r) = word (nb X b n r.val) := by
  unfold val_main_indices_7
  exact top_apply (by decide) _ (dist X b n) (dist_ne_top hX b n) b n
    (fun m => by rw [val_main_v49_apply, dist_apply]; rfl) _ r

/-! ## The gathers -/

theorem word_toInt (k : Fin 4096) : (word k).toInt = (k.val : ℤ) := by
  have h : (word k).toNat = k.val := by
    unfold word
    rw [BitVec.toNat_ofNat]
    exact Nat.mod_eq_of_lt (by have := k.isLt; omega)
  rw [BitVec.toInt_eq_toNat_of_lt (by rw [h]; have := k.isLt; omega), h]

theorem wrap_word (k : Fin 4096) (y : BitVec 32) : Scalar.select (IntOp.cmpi .slt (word k) 0#32) y (word k) = word k := by
  have h : IntOp.cmpi .slt (word k) 0#32 = 0#1 := by
    show BitVec.ofBool ((word k).slt 0#32) = 0#1
    have : (word k).slt 0#32 = false := by
      rw [BitVec.slt, word_toInt]
      simp
    rw [this]; rfl
  rw [h]
  rfl

theorem pl32_apply {X : Cloud} (hX : Real' X) (b : Fin 4) (n : Fin 4096) (r : Fin 32) (z : Fin 1) :
    val_main_v19 (F := Ideal) X (ix4 b n r z) = word (nb X b n r.val) := by
  have e : idx_main_v19 (ix4 b n r z) = ix3 b n r := by
    funext a
    match a with
    | ⟨0, _⟩ => rfl
    | ⟨1, _⟩ => rfl
    | ⟨2, _⟩ => rfl
  rw [val_main_v19_apply, e, val_main_v18_apply, val_main_v15_apply, idx32_apply hX, val_main_v14_apply]
  exact wrap_word _ _

theorem pl8_apply {X : Cloud} (hX : Real' X) (b : Fin 4) (n : Fin 4096) (r : Fin 8) (z : Fin 1) :
    val_main_v55 (F := Ideal) X (ix4 b n r z) = word (nb X b n r.val) := by
  have e : idx_main_v55 (ix4 b n r z) = ix3 b n r := by
    funext a
    match a with
    | ⟨0, _⟩ => rfl
    | ⟨1, _⟩ => rfl
    | ⟨2, _⟩ => rfl
  rw [val_main_v55_apply, e, val_main_v54_apply, val_main_v51_apply, idx8_apply hX, val_main_v50_apply]
  exact wrap_word _ _

theorem gat32_apply (Y : Cloud) (I : IVec S4x4096x32x1 32) (b : Fin 4) (n : Fin 4096) (r : Fin 32) (k : Fin 3) (p : Fin 4096)
    (h : I (ix4 b n r 0) = word p) :
    Host.gather gather_S4x4096x3_S4x4096x32x1_S4x4096x32x3_3_1_0_0_1_3_113 Y I (ix4 b n r k) = Y (ix3 b p k) := by
  unfold Host.gather
  refine congrArg Y (funext fun a => Fin.ext ?_)
  match a with
  | ⟨0, _⟩ =>
    show 0 + b.val + 0 = b.val
    omega
  | ⟨1, _⟩ =>
    have e : GatherDims.siIdx gather_S4x4096x3_S4x4096x32x1_S4x4096x32x3_3_1_0_0_1_3_113 (ix4 b n r k) ⟨0, by decide⟩
        = ix4 b n r (0 : Fin 1) := by
      funext c
      match c with
      | ⟨0, _⟩ => rfl
      | ⟨1, _⟩ => rfl
      | ⟨2, _⟩ => rfl
      | ⟨3, _⟩ => rfl
    have e' : (I (GatherDims.siIdx gather_S4x4096x3_S4x4096x32x1_S4x4096x32x3_3_1_0_0_1_3_113 (ix4 b n r k) ⟨0, by decide⟩)).toInt
        = (p.val : ℤ) := by rw [e, h, word_toInt]
    show min (I (GatherDims.siIdx gather_S4x4096x3_S4x4096x32x1_S4x4096x32x3_3_1_0_0_1_3_113 (ix4 b n r k)
      ⟨0, by decide⟩)).toInt.toNat 4095 + 0 + 0 = p.val
    rw [e']
    have := p.isLt
    omega
  | ⟨2, _⟩ =>
    show 0 + 0 + k.val = k.val
    omega

theorem gat8_apply (Y : Cloud) (I : IVec S4x4096x8x1 32) (b : Fin 4) (n : Fin 4096) (r : Fin 8) (k : Fin 3) (p : Fin 4096)
    (h : I (ix4 b n r 0) = word p) :
    Host.gather gather_S4x4096x3_S4x4096x8x1_S4x4096x8x3_3_1_0_0_1_3_113 Y I (ix4 b n r k) = Y (ix3 b p k) := by
  unfold Host.gather
  refine congrArg Y (funext fun a => Fin.ext ?_)
  match a with
  | ⟨0, _⟩ =>
    show 0 + b.val + 0 = b.val
    omega
  | ⟨1, _⟩ =>
    have e : GatherDims.siIdx gather_S4x4096x3_S4x4096x8x1_S4x4096x8x3_3_1_0_0_1_3_113 (ix4 b n r k) ⟨0, by decide⟩
        = ix4 b n r (0 : Fin 1) := by
      funext c
      match c with
      | ⟨0, _⟩ => rfl
      | ⟨1, _⟩ => rfl
      | ⟨2, _⟩ => rfl
      | ⟨3, _⟩ => rfl
    have e' : (I (GatherDims.siIdx gather_S4x4096x3_S4x4096x8x1_S4x4096x8x3_3_1_0_0_1_3_113 (ix4 b n r k) ⟨0, by decide⟩)).toInt
        = (p.val : ℤ) := by rw [e, h, word_toInt]
    show min (I (GatherDims.siIdx gather_S4x4096x3_S4x4096x8x1_S4x4096x8x3_3_1_0_0_1_3_113 (ix4 b n r k)
      ⟨0, by decide⟩)).toInt.toNat 4095 + 0 + 0 = p.val
    rw [e']
    have := p.isLt
    omega
  | ⟨2, _⟩ =>
    show 0 + 0 + k.val = k.val
    omega

theorem pts_apply {X : Cloud} (hX : Real' X) (b : Fin 4) (n : Fin 4096) (r : Fin 32) (k : Fin 3) :
    val_main_v20 (F := Ideal) X (ix4 b n r k) = X (ix3 b (nb X b n r.val) k) :=
  gat32_apply X _ b n r k _ (pl32_apply hX b n r 0)

theorem nrm_apply {X : Cloud} (hX : Real' X) (N : Cloud) (b : Fin 4) (n : Fin 4096) (r : Fin 8) (k : Fin 3) :
    val_main_v56 (F := Ideal) X N (ix4 b n r k) = nrm N b (nb X b n r.val) k :=
  gat8_apply N _ b n r k _ (pl8_apply hX b n r 0)

end Cert.ReferenceIdeal.Near

end
-- ==== Proof.RefCov.lean ====
/- The reference's covariances and mean spreads. -/
module

public import proofs.«01_k».proof.Proof.RefNear

@[expose] public section

set_option maxRecDepth 16384

noncomputable section

namespace Cert.ReferenceIdeal.Near

open Cert.ReferenceIdeal Cert.ReferenceIdeal.Gen Cert.ReferenceIdeal.Read Idealize.ShloMosaic Idealize.ShloMosaic.TcCoe
open Idealize.ShloMosaic.ValueIdx Cert.Select Cert.Spec

/-! ## The covariances -/

theorem sum_apply {X : Cloud} (hX : Real' X) (b : Fin 4) (n : Fin 4096) (i : Fin 3) :
    val_main_v21 (F := Ideal) X (ix3 b n i) = ∑ r : Fin 32, X (ix3 b (nb X b n r) i) := by
  rw [val_main_v21_apply]
  refine (congrArg₂ (· + ·) zero_eq (Finset.sum_congr rfl fun (r : Fin 32) _ => ?_)).trans (zero_add _)
  have e : idx_main_v21 (ix3 b n i) r = ix4 b n r i := by
    funext a
    match a with
    | ⟨0, _⟩ => rfl
    | ⟨1, _⟩ => rfl
    | ⟨2, _⟩ => rfl
    | ⟨3, _⟩ => rfl
  rw [e, pts_apply hX]

theorem mean_apply {X : Cloud} (hX : Real' X) (b : Fin 4) (n : Fin 4096) (z : Fin 1) (i : Fin 3) :
    val_main_v24 (F := Ideal) X (ix4 b n z i) = mean X b n i := by
  have e : idx_main_v22 (ix4 b n z i) = ix3 b n i := by
    funext a
    match a with
    | ⟨0, _⟩ => rfl
    | ⟨1, _⟩ => rfl
    | ⟨2, _⟩ => rfl
  rw [val_main_v24_apply, val_main_v22_apply, e, sum_apply hX, val_main_v23_apply]
  rfl

theorem cen_apply {X : Cloud} (hX : Real' X) (b : Fin 4) (n : Fin 4096) (r : Fin 32) (i : Fin 3) :
    val_main_v26 (F := Ideal) X (ix4 b n r i) = X (ix3 b (nb X b n r) i) - mean X b n i := by
  have e : idx_main_v25 (ix4 b n r i) = ix4 b n (0 : Fin 1) i := by
    funext a
    match a with
    | ⟨0, _⟩ => rfl
    | ⟨1, _⟩ => rfl
    | ⟨2, _⟩ => rfl
    | ⟨3, _⟩ => rfl
  rw [val_main_v26_apply, pts_apply hX, val_main_v25_apply, e, mean_apply hX]
  rfl

theorem cov_apply {X : Cloud} (hX : Real' X) (b : Fin 4) (n : Fin 4096) (i j : Fin 3) :
    val_main_v29 (F := Ideal) X (ix4 b n i j) = cov X b n i j := by
  rw [val_main_v29_apply, val_main_v27_apply, val_main_v28_apply]
  unfold cov
  refine congrArg₂ Ideal.div (Finset.sum_congr rfl fun (r : Fin 32) _ => ?_) rfl
  have e : lidx_main_v27 (ix4 b n i j) r = ix4 b n r i := by
    funext a
    match a with
    | ⟨0, _⟩ => rfl
    | ⟨1, _⟩ => rfl
    | ⟨2, _⟩ => rfl
    | ⟨3, _⟩ => rfl
  have e' : ridx_main_v27 (ix4 b n i j) r = ix4 b n r j := by
    funext a
    match a with
    | ⟨0, _⟩ => rfl
    | ⟨1, _⟩ => rfl
    | ⟨2, _⟩ => rfl
    | ⟨3, _⟩ => rfl
  rw [e, e', cen_apply hX, cen_apply hX]

/-- An entry of the covariance taken out and set as a column. -/
theorem ent_apply {X : Cloud} (hX : Real' X) (b : Fin 4) (n : Fin 4096) (i j : Fin 3) (q : S4x4096x3x3.Idx)
    (h0 : (q 0).val = b.val) (h1 : (q 1).val = n.val) (h2 : (q 2).val = i.val) (h3 : (q 3).val = j.val) :
    val_main_v29 (F := Ideal) X q = cov X b n i j := by
  have e : q = ix4 b n i j := by
    funext a
    match a with
    | ⟨0, _⟩ => exact Fin.ext h0
    | ⟨1, _⟩ => exact Fin.ext h1
    | ⟨2, _⟩ => exact Fin.ext h2
    | ⟨3, _⟩ => exact Fin.ext h3
  rw [e, cov_apply hX]

/-- The six columns of the result. -/
def cols6 (X : Cloud) : Fin 6 → (S4x4096x1.Idx → EReal) :=
  ![val_main_v42 (F := Ideal) X, val_main_v43 (F := Ideal) X, val_main_v44 (F := Ideal) X, val_main_v45 (F := Ideal) X,
    val_main_v46 (F := Ideal) X, val_main_v47 (F := Ideal) X]

theorem pos0 (b : Fin 4) (n : Fin 4096) : (b.val * 4096 + n.val) / 4096 = b.val := by
  have := b.isLt; have := n.isLt; omega

theorem pos1 (b : Fin 4) (n : Fin 4096) : (b.val * 4096 + n.val) / 1 % 4096 = n.val := by
  have := b.isLt; have := n.isLt; omega

theorem col0_apply {X : Cloud} (hX : Real' X) (b : Fin 4) (n : Fin 4096) (z : Fin 1) :
    val_main_v42 (F := Ideal) X (ix3 b n z) = cov X b n (fst6 0) (snd6 0) := by
  rw [val_main_v42_apply, val_main_v31_apply, val_main_v30_apply]
  exact ent_apply hX b n (fst6 0) (snd6 0) _ (pos0 b n) (pos1 b n) rfl rfl

theorem col1_apply {X : Cloud} (hX : Real' X) (b : Fin 4) (n : Fin 4096) (z : Fin 1) :
    val_main_v43 (F := Ideal) X (ix3 b n z) = cov X b n (fst6 1) (snd6 1) := by
  rw [val_main_v43_apply, val_main_v33_apply, val_main_v32_apply]
  exact ent_apply hX b n (fst6 1) (snd6 1) _ (pos0 b n) (pos1 b n) rfl rfl

theorem col2_apply {X : Cloud} (hX : Real' X) (b : Fin 4) (n : Fin 4096) (z : Fin 1) :
    val_main_v44 (F := Ideal) X (ix3 b n z) = cov X b n (fst6 2) (snd6 2) := by
  rw [val_main_v44_apply, val_main_v35_apply, val_main_v34_apply]
  exact ent_apply hX b n (fst6 2) (snd6 2) _ (pos0 b n) (pos1 b n) rfl rfl

theorem col3_apply {X : Cloud} (hX : Real' X) (b : Fin 4) (n : Fin 4096) (z : Fin 1) :
    val_main_v45 (F := Ideal) X (ix3 b n z) = cov X b n (fst6 3) (snd6 3) := by
  rw [val_main_v45_apply, val_main_v37_apply, val_main_v36_apply]
  exact ent_apply hX b n (fst6 3) (snd6 3) _ (pos0 b n) (pos1 b n) rfl rfl

theorem col4_apply {X : Cloud} (hX : Real' X) (b : Fin 4) (n : Fin 4096) (z : Fin 1) :
    val_main_v46 (F := Ideal) X (ix3 b n z) = cov X b n (fst6 4) (snd6 4) := by
  rw [val_main_v46_apply, val_main_v39_apply, val_main_v38_apply]
  exact ent_apply hX b n (fst6 4) (snd6 4) _ (pos0 b n) (pos1 b n) rfl rfl

theorem col5_apply {X : Cloud} (hX : Real' X) (b : Fin 4) (n : Fin 4096) (z : Fin 1) :
    val_main_v47 (F := Ideal) X (ix3 b n z) = cov X b n (fst6 5) (snd6 5) := by
  rw [val_main_v47_apply, val_main_v41_apply, val_main_v40_apply]
  exact ent_apply hX b n (fst6 5) (snd6 5) _ (pos0 b n) (pos1 b n) rfl rfl

theorem cols6_apply {X : Cloud} (hX : Real' X) (b : Fin 4) (n : Fin 4096) (q : Fin 6) :
    cols6 X q (ix3 b n (0 : Fin 1)) = cov X b n (fst6 q) (snd6 q) := by
  match q with
  | ⟨0, _⟩ => exact col0_apply hX b n 0
  | ⟨1, _⟩ => exact col1_apply hX b n 0
  | ⟨2, _⟩ => exact col2_apply hX b n 0
  | ⟨3, _⟩ => exact col3_apply hX b n 0
  | ⟨4, _⟩ => exact col4_apply hX b n 0
  | ⟨5, _⟩ => exact col5_apply hX b n 0

/-- The reference's first six numbers at every point: the covariance's upper half. -/
theorem covs_apply {X : Cloud} (hX : Real' X) (b : Fin 4) (n : Fin 4096) (q : Fin 6) :
    val_main_v48 (F := Ideal) X (ix3 b n q) = cov X b n (fst6 q) (snd6 q) := by
  unfold val_main_v48
  refine (concatenate_ofFn_unit_apply (t := S4x4096x6) (s₁ := S4x4096x1) (2 : Fin 3) (cols6 X) _ rfl rfl (ix3 b n q) q rfl
    (ix3 b n (0 : Fin 1)) (fun a ha => by
      match a with
      | ⟨0, _⟩ => rfl
      | ⟨1, _⟩ => rfl
      | ⟨2, _⟩ => exact absurd rfl ha)).trans ?_
  exact cols6_apply hX b n q

end Cert.ReferenceIdeal.Near

end
-- ==== Proof.RefPen.lean ====
/- The reference's comparison of normals. -/
module

public import proofs.«01_k».proof.Proof.RefNear

@[expose] public section

set_option maxRecDepth 16384

noncomputable section

namespace Cert.ReferenceIdeal.Near

open Cert.ReferenceIdeal Cert.ReferenceIdeal.Gen Cert.ReferenceIdeal.Read Idealize.ShloMosaic Idealize.ShloMosaic.TcCoe
open Idealize.ShloMosaic.ValueIdx Cert.Select Cert.Spec

/-! ## One comparison -/

/-- The normal at the nearest point. -/
theorem own_apply {X : Cloud} (hX : Real' X) (N : Cloud) (b : Fin 4) (n : Fin 4096) (z : Fin 1) (k : Fin 3) :
    val_main_v57 (F := Ideal) X N (ix4 b n z k) = nrm N b (nb X b n 0) k := by
  have e : idx_main_v57 (ix4 b n z k) = ix4 b n (0 : Fin 8) k := by
    funext a
    match a with
    | ⟨0, _⟩ => rfl
    | ⟨1, _⟩ => rfl
    | ⟨2, _⟩ => exact Fin.ext (by have := z.isLt; show z.val = 0; omega)
    | ⟨3, _⟩ => rfl
  rw [val_main_v57_apply, e, nrm_apply hX]
  rfl

theorem ownLen_apply {X : Cloud} (hX : Real' X) (N : Cloud) (b : Fin 4) (n : Fin 4096) (z : Fin 1) :
    val_main_v60 (F := Ideal) X N (ix3 b n z) = len (nrm N b (nb X b n 0)) := by
  rw [val_main_v60_apply, val_main_v58_apply, val_main_v59_apply, val_main_call0_v1_apply]
  unfold len
  refine congrArg₂ max (congrArg Ideal.sqrt ?_) rfl
  refine (congrArg₂ (· + ·) zero_eq (Finset.sum_congr rfl fun (k : Fin 3) _ => ?_)).trans (zero_add _)
  have e : idx_main_call0_v1 (ix3 b n z) k = ix4 b n z k := by
    funext a
    match a with
    | ⟨0, _⟩ => rfl
    | ⟨1, _⟩ => rfl
    | ⟨2, _⟩ => rfl
    | ⟨3, _⟩ => rfl
  rw [val_main_call0_v0_apply, e, own_apply hX]
  rfl

theorem nearLen_apply {X : Cloud} (hX : Real' X) (N : Cloud) (b : Fin 4) (n : Fin 4096) (r : Fin 8) :
    val_main_v63 (F := Ideal) X N (ix3 b n r) = len (nrm N b (nb X b n r.val)) := by
  rw [val_main_v63_apply, val_main_v61_apply, val_main_v62_apply, val_main_call1_v1_apply]
  unfold len
  refine congrArg₂ max (congrArg Ideal.sqrt ?_) rfl
  refine (congrArg₂ (· + ·) zero_eq (Finset.sum_congr rfl fun (k : Fin 3) _ => ?_)).trans (zero_add _)
  have e : idx_main_call1_v1 (ix3 b n r) k = ix4 b n r k := by
    funext a
    match a with
    | ⟨0, _⟩ => rfl
    | ⟨1, _⟩ => rfl
    | ⟨2, _⟩ => rfl
    | ⟨3, _⟩ => rfl
  rw [val_main_call1_v0_apply, e, nrm_apply hX]
  rfl

theorem inner_apply {X : Cloud} (hX : Real' X) (N : Cloud) (b : Fin 4) (n : Fin 4096) (r : Fin 8) :
    val_main_v66 (F := Ideal) X N (ix3 b n r) = ∑ k, nrm N b (nb X b n 0) k * nrm N b (nb X b n r.val) k := by
  rw [val_main_v66_apply]
  refine (congrArg₂ (· + ·) zero_eq (Finset.sum_congr rfl fun (k : Fin 3) _ => ?_)).trans (zero_add _)
  have e : idx_main_v66 (ix3 b n r) k = ix4 b n r k := by
    funext a
    match a with
    | ⟨0, _⟩ => rfl
    | ⟨1, _⟩ => rfl
    | ⟨2, _⟩ => rfl
    | ⟨3, _⟩ => rfl
  have e' : idx_main_v64 (ix4 b n r k) = ix4 b n (0 : Fin 1) k := by
    funext a
    match a with
    | ⟨0, _⟩ => rfl
    | ⟨1, _⟩ => rfl
    | ⟨2, _⟩ => rfl
    | ⟨3, _⟩ => rfl
  rw [val_main_v65_apply, val_main_v64_apply, e, e', own_apply hX, nrm_apply hX]
  rfl

theorem pens_apply {X : Cloud} (hX : Real' X) (N : Cloud) (b : Fin 4) (n : Fin 4096) (r : Fin 8) :
    val_main_v71 (F := Ideal) X N (ix3 b n r) = pens X N b n r := by
  have e : idx_main_v67 (ix3 b n r) = ix3 b n (0 : Fin 1) := by
    funext a
    match a with
    | ⟨0, _⟩ => rfl
    | ⟨1, _⟩ => rfl
    | ⟨2, _⟩ => rfl
  rw [val_main_v71_apply, val_main_v70_apply, val_main_v69_apply, val_main_v68_apply, val_main_v67_apply, e, inner_apply hX,
    ownLen_apply hX, nearLen_apply hX]
  exact congrArg₂ (· - ·) one_eq rfl

/-! ## The spread of eight comparisons -/

theorem avg_apply {X : Cloud} (hX : Real' X) (N : Cloud) (b : Fin 4) (n : Fin 4096) (z : Fin 1) :
    val_main_call2_call0_v3 (F := Ideal) X N (ix3 b n z) = avg (pens X N b n) := by
  have e : idx_main_call2_call0_v1 (ix3 b n z) = ix2 b n := by
    funext a
    match a with
    | ⟨0, _⟩ => rfl
    | ⟨1, _⟩ => rfl
  rw [val_main_call2_call0_v3_apply, val_main_call2_call0_v1_apply, e, val_main_call2_call0_v0_apply, val_main_call2_call0_v2_apply]
  unfold avg
  refine congrArg₂ Ideal.div ?_ rfl
  refine (congrArg₂ (· + ·) zero_eq (Finset.sum_congr rfl fun (r : Fin 8) _ => ?_)).trans (zero_add _)
  have e' : idx_main_call2_call0_v0 (ix2 b n) r = ix3 b n r := by
    funext a
    match a with
    | ⟨0, _⟩ => rfl
    | ⟨1, _⟩ => rfl
    | ⟨2, _⟩ => rfl
  rw [e', pens_apply hX]

theorem dev_apply {X : Cloud} (hX : Real' X) (N : Cloud) (b : Fin 4) (n : Fin 4096) (r : Fin 8) :
    val_main_call2_call0_v6 (F := Ideal) X N (ix3 b n r)
      = (pens X N b n r - avg (pens X N b n)) * (pens X N b n r - avg (pens X N b n)) := by
  have e : idx_main_call2_call0_v4 (ix3 b n r) = ix3 b n (0 : Fin 1) := by
    funext a
    match a with
    | ⟨0, _⟩ => rfl
    | ⟨1, _⟩ => rfl
    | ⟨2, _⟩ => rfl
  rw [val_main_call2_call0_v6_apply, val_main_call2_call0_v5_apply, val_main_call2_call0_v4_apply, e, avg_apply hX,
    pens_apply hX]
  rfl

/-- Eight less one. -/
theorem less_apply (i : S_.Idx) : val_main_call2_call0_v8 (F := Ideal) i = seven := by
  rw [val_main_call2_call0_v8_apply, val_main_call2_call0_v7_apply, val_main_c_14_apply]
  refine (congrArg₂ (· - ·) eight_eq (?_ : _ = ((1 : ℝ) : EReal))).trans ?_
  · show (((1#32).toInt : ℝ) : EReal) = _
    norm_num
  · rw [seven_eq, ← EReal.coe_sub]
    norm_num

/-- Seven is positive, so the quotient is taken. -/
theorem more_apply (i : S_.Idx) : val_main_call2_call0_v12 (F := Ideal) i = 1#1 := by
  rw [val_main_call2_call0_v12_apply, less_apply]
  refine (congrArg₂ (fun u v => Ideal.cmp .ogt u v) seven_eq zero_eq).trans ?_
  have h : ((0 : ℝ) : EReal) < ((7 : ℝ) : EReal) := by exact_mod_cast (by norm_num : (0 : ℝ) < 7)
  simp [Ideal.cmp]

theorem sd_apply {X : Cloud} (hX : Real' X) (N : Cloud) (b : Fin 4) (n : Fin 4096) :
    val_main_v72 (F := Ideal) X N (ix2 b n) = sd (pens X N b n) := by
  rw [val_main_v72_apply]
  refine congrArg Ideal.sqrt ?_
  have e : val_main_call2_v0 (F := Ideal) X N (ix2 b n) = val_main_call2_call0_v11 (F := Ideal) X N (ix2 b n) := by
    unfold val_main_call2_v0
    refine (congrArg (fun c => Scalar.select c (val_main_call2_call0_v11 (F := Ideal) X N (ix2 b n))
      (val_main_call2_call0_call0_v1 (F := Ideal) (ix2 b n))) ?_).trans (if_pos rfl)
    exact (broadcastInDim_apply _ bcast_S_S4x4096 (val_main_call2_call0_v12 (F := Ideal)) (ix2 b n) (fun a => a.elim0)
      (fun a => a.elim0)).trans (more_apply _)
  rw [e, val_main_call2_call0_v11_apply, val_main_call2_call0_v10_apply, less_apply, val_main_call2_call0_v9_apply]
  refine congrArg₂ Ideal.div ?_ rfl
  refine (congrArg₂ (· + ·) zero_eq (Finset.sum_congr rfl fun (r : Fin 8) _ => ?_)).trans (zero_add _)
  have e' : idx_main_call2_call0_v9 (ix2 b n) r = ix3 b n r := by
    funext a
    match a with
    | ⟨0, _⟩ => rfl
    | ⟨1, _⟩ => rfl
    | ⟨2, _⟩ => rfl
  rw [e', dev_apply hX]

/-- The reference's second result: the mean spread of a cloud. -/
theorem penalty_apply {X : Cloud} (hX : Real' X) (N : Cloud) (b : Fin 4) :
    val_main_v75 (F := Ideal) X N (ix1 b) = penalty X N b := by
  rw [val_main_v75_apply, val_main_v73_apply, val_main_v74_apply]
  unfold penalty
  refine congrArg₂ Ideal.div ?_ rfl
  refine (congrArg₂ (· + ·) zero_eq (Finset.sum_congr rfl fun (n : Fin 4096) _ => ?_)).trans (zero_add _)
  have e : idx_main_v73 (ix1 b) n = ix2 b n := by
    funext a
    match a with
    | ⟨0, _⟩ => rfl
    | ⟨1, _⟩ => rfl
  rw [e, sd_apply hX]

end Cert.ReferenceIdeal.Near

end
-- ==== Proof.Finite.lean ====
/- The precondition: what it states of its shapes, and that it says every coordinate is a real number. -/
module

public import proofs.«01_k».proof.Pre_finite_points
public import proofs.«01_k».proof.Proof.Spec
public import Idealize.ShloMosaic.Lib.ReduceAll

@[expose] public section

noncomputable section

namespace Cert.Finite

open Idealize.ShloMosaic Cert.Pre_finite_points Cert.Spec

/-- The shapes the precondition states. -/
theorem facts : Cert.Pre_finite_points.Facts where
  bcast_S_S4x4096x3 := by decide
  reducesTo_S4x4096x3_S_d0_1_2 := by decide
  h_S_ := by decide

theorem inf_eq : (Ideal.ofBits .f32 0x7F800000#32 : EReal) = ⊤ := by
  simp [Ideal.ofBits, Ideal.ieee]

/-- A number whose absolute value lies below infinity is real. -/
theorem real_of_abs {x : EReal} (h : Ideal.cmp .olt (max x (-x)) ⊤ = 1#1) : ∃ r : ℝ, x = (r : EReal) := by
  have h' : max x (-x) < ⊤ := by
    by_contra hn
    simp [Ideal.cmp, hn] at h
  induction x with
  | bot => simp at h'
  | coe r => exact ⟨r, rfl⟩
  | top => simp at h'

instance : Subsingleton S_.Idx := ⟨fun a b => funext fun k => k.elim0⟩

/-- The points of which the precondition holds are real numbers. -/
theorem real_of_pre [Cert.Pre_finite_points.Facts] (X N : Cloud) (h : Cert.Pre_finite_points.fn (F := Ideal) X N = fun _ => 1#1) :
    Real' X := by
  have h1 : ∀ i, ∃ r : ℝ, X i = (r : EReal) := fun i => by
    have h0 := Host.reduce_andi_all _ _ _ _ (fun k => k.elim0) (congrFun h (fun k => k.elim0)) i
    refine real_of_abs ?_
    rw [← inf_eq]
    exact h0
  choose R hR using h1
  exact ⟨R, funext hR⟩

end Cert.Finite

end
-- ==== Proof.lean ====
/- The claims of this certificate, put together: the frames of the kernel, of its ideal reading and of the reference's
   ideal reading, that the ideal reading preserves the kernel, and that kernel and reference end with the same results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefCov
public import proofs.«01_k».proof.Proof.RefPen
public import proofs.«01_k».proof.Proof.Finite
public import Idealize.ShloMosaic.Adequacy
public import Idealize.ShloMosaic.Init

@[expose] public section

noncomputable section

namespace Cert.Proof

open Idealize.ShloMosaic Idealize.ShloMosaic.ValueIdx Idealize.SL.Sem Cert.Kernel Cert.Spec

/-- Both programs are the same operations, and no operation is rewritten between them. -/
theorem preserves : Cert.preserves_Kernel_KernelIdeal := trivial

/-- The kernel runs to its end, leaves its arguments and its counters as they were. -/
theorem frame_p : Cert.quiescent_Kernel := fun m ρ _ => Cert.Kernel.Gen.frame m ρ

/-- The same of the kernel's ideal reading. -/
theorem frame_pi : Cert.quiescent_KernelIdeal := fun m ρ _ => Cert.KernelIdeal.Gen.frame m ρ

/-- The same of the reference's ideal reading, which has no counters. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference's covariances as an array. -/
theorem ref_covs {X : Cloud} (hX : Real' X) :
    Cert.ReferenceIdeal.Read.val_main_v48 (F := Ideal) X = Cert.KernelIdeal.Rounds.covA X := by
  funext i
  obtain ⟨a, b, c, rfl⟩ : ∃ a b c, i = ix3 a b c := ⟨i 0, i 1, i 2, by
    funext k
    match k with
    | ⟨0, _⟩ => rfl
    | ⟨1, _⟩ => rfl
    | ⟨2, _⟩ => rfl⟩
  exact Cert.ReferenceIdeal.Near.covs_apply hX a b c

/-- The reference's mean spreads as an array. -/
theorem ref_pens {X : Cloud} (hX : Real' X) (N : Cloud) :
    Cert.ReferenceIdeal.Read.val_main_v75 (F := Ideal) X N = fun i : Cert.KernelIdeal.S4.Idx => penalty X N (i 0) := by
  funext i
  obtain ⟨a, rfl⟩ : ∃ a, i = ix1 a := ⟨i 0, by
    funext k
    match k with
    | ⟨0, _⟩ => rfl⟩
  exact Cert.ReferenceIdeal.Near.penalty_apply hX N a

/-- From finite points the kernel and the reference end with the same covariances and the same mean spreads. -/
theorem values : Cert.algebraic_KernelIdeal_ReferenceIdeal_pre_finite_points (hPre_finite_points := Cert.Finite.facts) := by
  intro m g m' g' hpre hagree
  have hX : ∀ c, Real' (Cert.KernelIdeal.Rounds.ptsIn m c) := fun c =>
    @Cert.Finite.real_of_pre Cert.Finite.facts _ (Cert.KernelIdeal.Rounds.nrmIn m c) (hpre c)
  refine ⟨fun c => fun i : Cert.KernelIdeal.S4.Idx =>
      penalty (Cert.KernelIdeal.Rounds.ptsIn m c) (Cert.KernelIdeal.Rounds.nrmIn m c) (i 0),
    fun c => Cert.KernelIdeal.Rounds.covA (Cert.KernelIdeal.Rounds.ptsIn m c), ?_, ?_⟩
  · exact (θ_run Cert.KernelIdeal.defs _ _).mono
      (fun _ h c => ⟨(h c).1.trans (Cert.KernelIdeal.Rounds.pens_end m g c),
        (h c).2.1.trans (Cert.KernelIdeal.Rounds.covs_end m g c (hX c)), (h c).2.2⟩)
      (Cert.KernelIdeal.Rounds.ends (F := Ideal) m g)
  · refine (θ_run Cert.ReferenceIdeal.defs _ _).mono (fun _ h c => ⟨(h c).1.trans ?_, (h c).2.1.trans ?_, (h c).2.2⟩)
      (Cert.ReferenceIdeal.Value.run (F := Ideal) m' g')
    · refine (Cert.ReferenceIdeal.Read.val_main_v75_eq m' c).trans ?_
      rw [(hagree c).1, (hagree c).2]
      exact ref_pens (hX c) _
    · refine (Cert.ReferenceIdeal.Read.val_main_v48_eq m' c).trans ?_
      rw [(hagree c).1]
      exact ref_covs (hX c)

theorem claim : Cert.Claim :=
  ⟨Cert.Kernel.Gen.facts, Cert.KernelIdeal.Gen.facts, Cert.ReferenceIdeal.Gen.facts, Cert.Finite.facts, frame_p, frame_pi,
    fun m ρ _ => frame_pi m ρ trivial, frame_ri, fun m ρ _ => frame_ri m ρ trivial, preserves, values⟩

end Cert.Proof

end
